-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsReferenceIdeal (m : (ℓ : Loc Cert.FfsReferenceIdeal.nD Cert.FfsReferenceIdeal.τ Cert.FfsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4)
      ∧ r.2.mem ((c.tc : Thread Cert.Ffs.nD Cert.Ffs.τ).loc Cert.Ffs.main_arg5) = m ((c.tc : Thread Cert.Ffs.nD Cert.Ffs.τ).loc Cert.Ffs.main_arg5)
      ∧ r.2.mem ((c.tc : Thread Cert.Ffs.nD Cert.Ffs.τ).loc Cert.Ffs.main_arg6) = m ((c.tc : Thread Cert.Ffs.nD Cert.Ffs.τ).loc Cert.Ffs.main_arg6)
      ∧ r.2.mem ((c.tc : Thread Cert.Ffs.nD Cert.Ffs.τ).loc Cert.Ffs.main_arg7) = m ((c.tc : Thread Cert.Ffs.nD Cert.Ffs.τ).loc Cert.Ffs.main_arg7)
      ∧ r.2.mem ((c.tc : Thread Cert.Ffs.nD Cert.Ffs.τ).loc Cert.Ffs.main_arg8) = m ((c.tc : Thread Cert.Ffs.nD Cert.Ffs.τ).loc Cert.Ffs.main_arg8)
      ∧ r.2.mem ((c.tc : Thread Cert.Ffs.nD Cert.Ffs.τ).loc Cert.Ffs.main_arg9) = m ((c.tc : Thread Cert.Ffs.nD Cert.Ffs.τ).loc Cert.Ffs.main_arg9))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
      ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
      ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
      ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7)
      ∧ r.2.mem ((c.tc : Thread Cert.FfsIdeal.nD Cert.FfsIdeal.τ).loc Cert.FfsIdeal.main_arg8) = m ((c.tc : Thread Cert.FfsIdeal.nD Cert.FfsIdeal.τ).loc Cert.FfsIdeal.main_arg8)
      ∧ r.2.mem ((c.tc : Thread Cert.FfsIdeal.nD Cert.FfsIdeal.τ).loc Cert.FfsIdeal.main_arg9) = m ((c.tc : Thread Cert.FfsIdeal.nD Cert.FfsIdeal.τ).loc Cert.FfsIdeal.main_arg9))
      ∧ r.2.sem = fun _ => 0)

def quiescent_FfsReferenceIdeal [hFfsReferenceIdeal : Cert.FfsReferenceIdeal.Facts] : Prop :=
  ∀ (m : (ℓ : Loc Cert.FfsReferenceIdeal.nD Cert.FfsReferenceIdeal.τ Cert.FfsReferenceIdeal.sig) → Buf (Elt Ideal) ℓ) (g : Dev Cert.FfsReferenceIdeal.nD → PrngReg), Pre_FfsReferenceIdeal m →
    θ_run (Cert.FfsReferenceIdeal.defs (F := Ideal)) (onTc (τ := Cert.FfsReferenceIdeal.τ) (Cert.FfsReferenceIdeal.main (F := Ideal))) ⟨m, fun _ => 0, g⟩ (fun r => (∀ c : Dev Cert.FfsReferenceIdeal.nD,
      r.2.mem ((c.tc : Thread Cert.FfsReferenceIdeal.nD Cert.FfsReferenceIdeal.τ).loc Cert.FfsReferenceIdeal.main_arg0) = m ((c.tc : Thread Cert.FfsReferenceIdeal.nD Cert.FfsReferenceIdeal.τ).loc Cert.FfsReferenceIdeal.main_arg0)
      ∧ r.2.mem ((c.tc : Thread Cert.FfsReferenceIdeal.nD Cert.FfsReferenceIdeal.τ).loc Cert.FfsReferenceIdeal.main_arg1) = m ((c.tc : Thread Cert.FfsReferenceIdeal.nD Cert.FfsReferenceIdeal.τ).loc Cert.FfsReferenceIdeal.main_arg1)
      ∧ r.2.mem ((c.tc : Thread Cert.FfsReferenceIdeal.nD Cert.FfsReferenceIdeal.τ).loc Cert.FfsReferenceIdeal.main_arg2) = m ((c.tc : Thread Cert.FfsReferenceIdeal.nD Cert.FfsReferenceIdeal.τ).loc Cert.FfsReferenceIdeal.main_arg2)
      ∧ r.2.mem ((c.tc : Thread Cert.FfsReferenceIdeal.nD Cert.FfsReferenceIdeal.τ).loc Cert.FfsReferenceIdeal.main_arg3) = m ((c.tc : Thread Cert.FfsReferenceIdeal.nD Cert.FfsReferenceIdeal.τ).loc Cert.FfsReferenceIdeal.main_arg3)
      ∧ r.2.mem ((c.tc : Thread Cert.FfsReferenceIdeal.nD Cert.FfsReferenceIdeal.τ).loc Cert.FfsReferenceIdeal.main_arg4) = m ((c.tc : Thread Cert.FfsReferenceIdeal.nD Cert.FfsReferenceIdeal.τ).loc Cert.FfsReferenceIdeal.main_arg4)
      ∧ r.2.mem ((c.tc : Thread Cert.FfsReferenceIdeal.nD Cert.FfsReferenceIdeal.τ).loc Cert.FfsReferenceIdeal.main_arg5) = m ((c.tc : Thread Cert.FfsReferenceIdeal.nD Cert.FfsReferenceIdeal.τ).loc Cert.FfsReferenceIdeal.main_arg5)
      ∧ r.2.mem ((c.tc : Thread Cert.FfsReferenceIdeal.nD Cert.FfsReferenceIdeal.τ).loc Cert.FfsReferenceIdeal.main_arg6) = m ((c.tc : Thread Cert.FfsReferenceIdeal.nD Cert.FfsReferenceIdeal.τ).loc Cert.FfsReferenceIdeal.main_arg6)
      ∧ r.2.mem ((c.tc : Thread Cert.FfsReferenceIdeal.nD Cert.FfsReferenceIdeal.τ).loc Cert.FfsReferenceIdeal.main_arg7) = m ((c.tc : Thread Cert.FfsReferenceIdeal.nD Cert.FfsReferenceIdeal.τ).loc Cert.FfsReferenceIdeal.main_arg7)
      ∧ r.2.mem ((c.tc : Thread Cert.FfsReferenceIdeal.nD Cert.FfsReferenceIdeal.τ).loc Cert.FfsReferenceIdeal.main_arg8) = m ((c.tc : Thread Cert.FfsReferenceIdeal.nD Cert.FfsReferenceIdeal.τ).loc Cert.FfsReferenceIdeal.main_arg8)
      ∧ r.2.mem ((c.tc : Thread Cert.FfsReferenceIdeal.nD Cert.FfsReferenceIdeal.τ).loc Cert.FfsReferenceIdeal.main_arg9) = m ((c.tc : Thread Cert.FfsReferenceIdeal.nD Cert.FfsReferenceIdeal.τ).loc Cert.FfsReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v46) = v0 c
          ∧ r.2.mem ((c.tc : Thread Cert.FfnReferenceIdeal.nD Cert.FfnReferenceIdeal.τ).loc Cert.FfnReferenceIdeal.main_v47) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Ffs_FfsIdeal : Prop :=
  True

def algebraic_FfsIdeal_FfsReferenceIdeal [hFfsIdeal : Cert.FfsIdeal.Facts] [hFfsReferenceIdeal : Cert.FfsReferenceIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsReferenceIdeal.nD Cert.FfsReferenceIdeal.τ Cert.FfsReferenceIdeal.sig) → Buf (Elt Ideal) ℓ) (g' : Dev Cert.FfsReferenceIdeal.nD → PrngReg), Pre_FfsIdeal m →
    (∀ c : Dev Cert.FfsIdeal.nD,
      m' ((c.tc : Thread Cert.FfsReferenceIdeal.nD Cert.FfsReferenceIdeal.τ).loc Cert.FfsReferenceIdeal.main_arg0) = m ((c.tc : Thread Cert.FfsIdeal.nD Cert.FfsIdeal.τ).loc Cert.FfsIdeal.main_arg0)
      ∧ m' ((c.tc : Thread Cert.FfsReferenceIdeal.nD Cert.FfsReferenceIdeal.τ).loc Cert.FfsReferenceIdeal.main_arg1) = m ((c.tc : Thread Cert.FfsIdeal.nD Cert.FfsIdeal.τ).loc Cert.FfsIdeal.main_arg1)
      ∧ m' ((c.tc : Thread Cert.FfsReferenceIdeal.nD Cert.FfsReferenceIdeal.τ).loc Cert.FfsReferenceIdeal.main_arg2) = m ((c.tc : Thread Cert.FfsIdeal.nD Cert.FfsIdeal.τ).loc Cert.FfsIdeal.main_arg2)
      ∧ m' ((c.tc : Thread Cert.FfsReferenceIdeal.nD Cert.FfsReferenceIdeal.τ).loc Cert.FfsReferenceIdeal.main_arg3) = m ((c.tc : Thread Cert.FfsIdeal.nD Cert.FfsIdeal.τ).loc Cert.FfsIdeal.main_arg3)
      ∧ m' ((c.tc : Thread Cert.FfsReferenceIdeal.nD Cert.FfsReferenceIdeal.τ).loc Cert.FfsReferenceIdeal.main_arg4) = m ((c.tc : Thread Cert.FfsIdeal.nD Cert.FfsIdeal.τ).loc Cert.FfsIdeal.main_arg4)
      ∧ m' ((c.tc : Thread Cert.FfsReferenceIdeal.nD Cert.FfsReferenceIdeal.τ).loc Cert.FfsReferenceIdeal.main_arg5) = m ((c.tc : Thread Cert.FfsIdeal.nD Cert.FfsIdeal.τ).loc Cert.FfsIdeal.main_arg5)
      ∧ m' ((c.tc : Thread Cert.FfsReferenceIdeal.nD Cert.FfsReferenceIdeal.τ).loc Cert.FfsReferenceIdeal.main_arg6) = m ((c.tc : Thread Cert.FfsIdeal.nD Cert.FfsIdeal.τ).loc Cert.FfsIdeal.main_arg6)
      ∧ m' ((c.tc : Thread Cert.FfsReferenceIdeal.nD Cert.FfsReferenceIdeal.τ).loc Cert.FfsReferenceIdeal.main_arg7) = m ((c.tc : Thread Cert.FfsIdeal.nD Cert.FfsIdeal.τ).loc Cert.FfsIdeal.main_arg7)
      ∧ m' ((c.tc : Thread Cert.FfsReferenceIdeal.nD Cert.FfsReferenceIdeal.τ).loc Cert.FfsReferenceIdeal.main_arg8) = m ((c.tc : Thread Cert.FfsIdeal.nD Cert.FfsIdeal.τ).loc Cert.FfsIdeal.main_arg8)
      ∧ m' ((c.tc : Thread Cert.FfsReferenceIdeal.nD Cert.FfsReferenceIdeal.τ).loc Cert.FfsReferenceIdeal.main_arg9) = m ((c.tc : Thread Cert.FfsIdeal.nD Cert.FfsIdeal.τ).loc Cert.FfsIdeal.main_arg9)) →
    ∃ (v0 : (c : Dev Cert.FfsIdeal.nD) → Buf (Elt Ideal) ((c.tc : Thread Cert.FfsIdeal.nD Cert.FfsIdeal.τ).loc Cert.FfsIdeal.main_v14_0)) (v1 : (c : Dev Cert.FfsIdeal.nD) → Buf (Elt Ideal) ((c.tc : Thread Cert.FfsIdeal.nD Cert.FfsIdeal.τ).loc Cert.FfsIdeal.main_v14_1)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v14_0) = v0 c
          ∧ r.2.mem ((c.tc : Thread Cert.FfsIdeal.nD Cert.FfsIdeal.τ).loc Cert.FfsIdeal.main_v14_1) = v1 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
          ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
          ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
          ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7)
          ∧ r.2.mem ((c.tc : Thread Cert.FfsIdeal.nD Cert.FfsIdeal.τ).loc Cert.FfsIdeal.main_arg8) = m ((c.tc : Thread Cert.FfsIdeal.nD Cert.FfsIdeal.τ).loc Cert.FfsIdeal.main_arg8)
          ∧ r.2.mem ((c.tc : Thread Cert.FfsIdeal.nD Cert.FfsIdeal.τ).loc Cert.FfsIdeal.main_arg9) = m ((c.tc : Thread Cert.FfsIdeal.nD Cert.FfsIdeal.τ).loc Cert.FfsIdeal.main_arg9))
      ∧ θ_run (Cert.FfsReferenceIdeal.defs (F := Ideal)) (onTc (τ := Cert.FfsReferenceIdeal.τ) (Cert.FfsReferenceIdeal.main (F := Ideal))) ⟨m', fun _ => 0, g'⟩ (fun r => ∀ c : Dev Cert.FfsReferenceIdeal.nD,
          r.2.mem ((c.tc : Thread Cert.FfsReferenceIdeal.nD Cert.FfsReferenceIdeal.τ).loc Cert.FfsReferenceIdeal.main_v48) = v0 c
          ∧ r.2.mem ((c.tc : Thread Cert.FfsReferenceIdeal.nD Cert.FfsReferenceIdeal.τ).loc Cert.FfsReferenceIdeal.main_v51) = v1 c
          ∧ r.2.mem ((c.tc : Thread Cert.FfsReferenceIdeal.nD Cert.FfsReferenceIdeal.τ).loc Cert.FfsReferenceIdeal.main_arg0) = m' ((c.tc : Thread Cert.FfsReferenceIdeal.nD Cert.FfsReferenceIdeal.τ).loc Cert.FfsReferenceIdeal.main_arg0)
          ∧ r.2.mem ((c.tc : Thread Cert.FfsReferenceIdeal.nD Cert.FfsReferenceIdeal.τ).loc Cert.FfsReferenceIdeal.main_arg1) = m' ((c.tc : Thread Cert.FfsReferenceIdeal.nD Cert.FfsReferenceIdeal.τ).loc Cert.FfsReferenceIdeal.main_arg1)
          ∧ r.2.mem ((c.tc : Thread Cert.FfsReferenceIdeal.nD Cert.FfsReferenceIdeal.τ).loc Cert.FfsReferenceIdeal.main_arg2) = m' ((c.tc : Thread Cert.FfsReferenceIdeal.nD Cert.FfsReferenceIdeal.τ).loc Cert.FfsReferenceIdeal.main_arg2)
          ∧ r.2.mem ((c.tc : Thread Cert.FfsReferenceIdeal.nD Cert.FfsReferenceIdeal.τ).loc Cert.FfsReferenceIdeal.main_arg3) = m' ((c.tc : Thread Cert.FfsReferenceIdeal.nD Cert.FfsReferenceIdeal.τ).loc Cert.FfsReferenceIdeal.main_arg3)
          ∧ r.2.mem ((c.tc : Thread Cert.FfsReferenceIdeal.nD Cert.FfsReferenceIdeal.τ).loc Cert.FfsReferenceIdeal.main_arg4) = m' ((c.tc : Thread Cert.FfsReferenceIdeal.nD Cert.FfsReferenceIdeal.τ).loc Cert.FfsReferenceIdeal.main_arg4)
          ∧ r.2.mem ((c.tc : Thread Cert.FfsReferenceIdeal.nD Cert.FfsReferenceIdeal.τ).loc Cert.FfsReferenceIdeal.main_arg5) = m' ((c.tc : Thread Cert.FfsReferenceIdeal.nD Cert.FfsReferenceIdeal.τ).loc Cert.FfsReferenceIdeal.main_arg5)
          ∧ r.2.mem ((c.tc : Thread Cert.FfsReferenceIdeal.nD Cert.FfsReferenceIdeal.τ).loc Cert.FfsReferenceIdeal.main_arg6) = m' ((c.tc : Thread Cert.FfsReferenceIdeal.nD Cert.FfsReferenceIdeal.τ).loc Cert.FfsReferenceIdeal.main_arg6)
          ∧ r.2.mem ((c.tc : Thread Cert.FfsReferenceIdeal.nD Cert.FfsReferenceIdeal.τ).loc Cert.FfsReferenceIdeal.main_arg7) = m' ((c.tc : Thread Cert.FfsReferenceIdeal.nD Cert.FfsReferenceIdeal.τ).loc Cert.FfsReferenceIdeal.main_arg7)
          ∧ r.2.mem ((c.tc : Thread Cert.FfsReferenceIdeal.nD Cert.FfsReferenceIdeal.τ).loc Cert.FfsReferenceIdeal.main_arg8) = m' ((c.tc : Thread Cert.FfsReferenceIdeal.nD Cert.FfsReferenceIdeal.τ).loc Cert.FfsReferenceIdeal.main_arg8)
          ∧ r.2.mem ((c.tc : Thread Cert.FfsReferenceIdeal.nD Cert.FfsReferenceIdeal.τ).loc Cert.FfsReferenceIdeal.main_arg9) = m' ((c.tc : Thread Cert.FfsReferenceIdeal.nD Cert.FfsReferenceIdeal.τ).loc Cert.FfsReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfs : Cert.Ffs.Facts) (hFfsIdeal : Cert.FfsIdeal.Facts) (hFfsReferenceIdeal : Cert.FfsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ffs (hFfs := hFfs)
    ∧ quiescent_FfsIdeal (hFfsIdeal := hFfsIdeal)
    ∧ quiescent_FfsReferenceIdeal (hFfsReferenceIdeal := hFfsReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Ffs_FfsIdeal
    ∧ algebraic_FfsIdeal_FfsReferenceIdeal (hFfsIdeal := hFfsIdeal) (hFfsReferenceIdeal := hFfsReferenceIdeal)
-- ==== Kernel.lean ====
abbrev S1x16384x8x64 : Shape := ⟨4, ![1, 16384, 8, 64]⟩
abbrev S_ : Shape := ⟨0, ![]⟩
abbrev S1024x8192 : Shape := ⟨2, ![1024, 8192]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S1024x2048 : Shape := ⟨2, ![1024, 2048]⟩
abbrev S1024x512 : Shape := ⟨2, ![1024, 512]⟩
abbrev S128x512 : Shape := ⟨2, ![128, 512]⟩
abbrev S1024x128 : Shape := ⟨2, ![1024, 128]⟩
abbrev S128x128 : Shape := ⟨2, ![128, 128]⟩
abbrev S256x128 : Shape := ⟨2, ![256, 128]⟩
abbrev S256x256 : Shape := ⟨2, ![256, 256]⟩
abbrev S1x1x128x256 : Shape := ⟨4, ![1, 1, 128, 256]⟩

abbrev nBuf : Space → Nat
  | .hbm => 76
  | .vmem => 15
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S_, .f32⟩
  | .hbm, ⟨4, _⟩ => ⟨S1x16384x8x64, .f32⟩
  | .hbm, ⟨5, _⟩ => ⟨S1x16384x8x64, .f32⟩
  | .hbm, ⟨6, _⟩ => ⟨S1024x8192, .f32⟩
  | .hbm, ⟨7, _⟩ => ⟨S1024x8192, .bf16⟩
  | .hbm, ⟨8, _⟩ => ⟨S1024x8192, .f32⟩
  | .hbm, ⟨9, _⟩ => ⟨S1024x8192, .bf16⟩
  | .hbm, ⟨10, _⟩ => ⟨S1024x8192, .f32⟩
  | .hbm, ⟨11, _⟩ => ⟨S1024x8192, .bf16⟩
  | .hbm, ⟨12, _⟩ => ⟨S128, .i32⟩
  | .hbm, ⟨13, _⟩ => ⟨S128x1, .i32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S128x256, .i1⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S8x1x1, .f32⟩
  | .hbm, ⟨45, _⟩ => ⟨S8x1x1, .f32⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S1x128x256, .i32⟩
  | .hbm, ⟨50, _⟩ => ⟨S1x128x256, .f32⟩
  | .hbm, ⟨51, _⟩ => ⟨S8x128x256, .f32⟩
  | .hbm, ⟨52, _⟩ => ⟨S8x128x256, .f32⟩
  | .hbm, ⟨53, _⟩ => ⟨S8x128x256, .f32⟩
  | .hbm, ⟨54, _⟩ => ⟨S1x128x256, .i1⟩
  | .hbm, ⟨55, _⟩ => ⟨S_, .f32⟩
  | .hbm, ⟨56, _⟩ => ⟨S_, .f32⟩
  | .hbm, ⟨57, _⟩ => ⟨S8x128x256, .i1⟩
  | .hbm, ⟨58, _⟩ => ⟨S8x128x256, .f32⟩
  | .hbm, ⟨59, _⟩ => ⟨S8x128x256, .f32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .f32⟩
  | .hbm, ⟨67, _⟩ => ⟨S_, .f32⟩
  | .hbm, ⟨68, _⟩ => ⟨S8x128x256, .i1⟩
  | .hbm, ⟨69, _⟩ => ⟨S8x128x256, .f32⟩
  | .hbm, ⟨70, _⟩ => ⟨S8x128x256, .f32⟩
  | .hbm, ⟨71, _⟩ => ⟨S1x8x128x256, .f32⟩
  | .hbm, ⟨72, _⟩ => ⟨S1x8x128x256, .f32⟩
  | .hbm, ⟨73, _⟩ => ⟨S2x8x128x256, .f32⟩
  | .hbm, ⟨74, _⟩ => ⟨S1024x8192, .bf16⟩
  | .hbm, ⟨75, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S128x512, .bf16⟩
  | .local _ .vmem, ⟨3, _⟩ => ⟨S128x512, .bf16⟩
  | .local _ .vmem, ⟨4, _⟩ => ⟨S1024x512, .bf16⟩
  | .local _ .vmem, ⟨5, _⟩ => ⟨S1024x512, .bf16⟩
  | .local _ .vmem, ⟨6, _⟩ => ⟨S128x512, .bf16⟩
  | .local _ .vmem, ⟨7, _⟩ => ⟨S128x512, .bf16⟩
  | .local _ .vmem, ⟨8, _⟩ => ⟨S1024x512, .bf16⟩
  | .local _ .vmem, ⟨9, _⟩ => ⟨S1024x512, .bf16⟩
  | .local _ .vmem, ⟨10, _⟩ => ⟨S2x8x128x256, .f32⟩
  | .local _ .vmem, ⟨11, _⟩ => ⟨S1024x512, .bf16⟩
  | .local _ .vmem, ⟨12, _⟩ => ⟨S1024x512, .bf16⟩
  | .local _ .vmem, ⟨13, _⟩ => ⟨S1024x128, .f32⟩
  | .local _ .vmem, ⟨14, _⟩ => ⟨S1024x128, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 1], ![false, false]⟩

def k0_off1 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v23 : Index := Scalar.indexCast v5
  let c0_12 : Index := 0#32
  let c0_13 : Index := 0#32
  let c0_14 : Index := 0#32
  ![v23.toNat, 0, 0, 0]
def k0_off2 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v50 : Index := Scalar.indexCast v5
  let c1 : Index := 1#32
  let c0_22 : Index := 0#32
  let c0_23 : Index := 0#32
  ![v50.toNat, 1, 0, 0]
def k0_off3 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v92 : Index := Scalar.indexCast v5
  let c2 : Index := 2#32
  let c0_40 : Index := 0#32
  let c0_41 : Index := 0#32
  ![v92.toNat, 2, 0, 0]
def k0_off4 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v119 : Index := Scalar.indexCast v5
  let c3 : Index := 3#32
  let c0_48 : Index := 0#32
  let c0_49 : Index := 0#32
  ![v119.toNat, 3, 0, 0]
def k0_off5 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v161 : Index := Scalar.indexCast v5
  let c4 : Index := 4#32
  let c0_66 : Index := 0#32
  let c0_67 : Index := 0#32
  ![v161.toNat, 4, 0, 0]
def k0_off6 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v188 : Index := Scalar.indexCast v5
  let c5 : Index := 5#32
  let c0_74 : Index := 0#32
  let c0_75 : Index := 0#32
  ![v188.toNat, 5, 0, 0]
def k0_off7 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v230 : Index := Scalar.indexCast v5
  let c6 : Index := 6#32
  let c0_92 : Index := 0#32
  let c0_93 : Index := 0#32
  ![v230.toNat, 6, 0, 0]
def k0_off8 (i : grid0.Coords) : Fin 4 → Nat :=
  let arg1 : BitVec 32 := BitVec.ofNat 32 (i 1).val
  let c0_i32 : BitVec 32 := 0#32
  let v4 : BitVec 1 := Scalar.cmpi .eq arg1 c0_i32
  let v5 : BitVec 32 := Scalar.extui v4
  let v257 : Index := Scalar.indexCast v5
  let c7 : Index := 7#32
  let c0_100 : Index := 0#32
  let c0_101 : Index := 0#32
  ![v257.toNat, 7, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x16384x8x64 : Shape := ⟨4, ![1, 16384, 8, 64]⟩
abbrev S8 : Shape := ⟨1, ![8]⟩
abbrev S_ : Shape := ⟨0, ![]⟩
abbrev S16384x8x64 : Shape := ⟨3, ![16384, 8, 64]⟩
abbrev S1024x16x8x64 : Shape := ⟨4, ![1024, 16, 8, 64]⟩
abbrev S16x8x1024x64 : Shape := ⟨4, ![16, 8, 1024, 64]⟩
abbrev S16x8x8x128x64 : Shape := ⟨5, ![16, 8, 8, 128, 64]⟩
abbrev S16x8x9x128x64 : Shape := ⟨5, ![16, 8, 9, 128, 64]⟩
abbrev S16x8x8x256x64 : Shape := ⟨5, ![16, 8, 8, 256, 64]⟩
abbrev S16x8x8x128x256 : Shape := ⟨5, ![16, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x1x1x1 : Shape := ⟨4, ![8, 1, 1, 1]⟩
abbrev S1x1x128x256 : Shape := ⟨4, ![1, 1, 128, 256]⟩
abbrev S8x1x128x256 : Shape := ⟨4, ![8, 1, 128, 256]⟩
abbrev S1x8x1x128x256 : Shape := ⟨5, ![1, 8, 1, 128, 256]⟩
abbrev S16x8x8x128 : Shape := ⟨4, ![16, 8, 8, 128]⟩
abbrev S16x8x8x128x1 : Shape := ⟨5, ![16, 8, 8, 128, 1]⟩
abbrev S16x8x1024 : Shape := ⟨3, ![16, 8, 1024]⟩
abbrev S1024x16x8 : Shape := ⟨3, ![1024, 16, 8]⟩
abbrev S16384x8 : Shape := ⟨2, ![16384, 8]⟩
abbrev S16384x112 : Shape := ⟨2, ![16384, 112]⟩
abbrev S16384x128 : Shape := ⟨2, ![16384, 128]⟩
abbrev S1024x8192 : Shape := ⟨2, ![1024, 8192]⟩
abbrev S1024x2048 : Shape := ⟨2, ![1024, 2048]⟩

abbrev nBuf : Space → Nat
  | .hbm => 122
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S16384x8x64, .f32⟩
  | .hbm, ⟨19, _⟩ => ⟨S16384x8x64, .f32⟩
  | .hbm, ⟨20, _⟩ => ⟨S16384x8x64, .f32⟩
  | .hbm, ⟨21, _⟩ => ⟨S1024x16x8x64, .f32⟩
  | .hbm, ⟨22, _⟩ => ⟨S16x8x1024x64, .f32⟩
  | .hbm, ⟨23, _⟩ => ⟨S16x8x8x128x64, .f32⟩
  | .hbm, ⟨24, _⟩ => ⟨S1024x16x8x64, .f32⟩
  | .hbm, ⟨25, _⟩ => ⟨S16x8x1024x64, .f32⟩
  | .hbm, ⟨26, _⟩ => ⟨S16x8x8x128x64, .f32⟩
  | .hbm, ⟨27, _⟩ => ⟨S_, .i32⟩
  | .hbm, ⟨28, _⟩ => ⟨S_, .f32⟩
  | .hbm, ⟨29, _⟩ => ⟨S16x8x9x128x64, .f32⟩
  | .hbm, ⟨30, _⟩ => ⟨S16x8x8x128x64, .f32⟩
  | .hbm, ⟨31, _⟩ => ⟨S16x8x8x256x64, .f32⟩
  | .hbm, ⟨32, _⟩ => ⟨S1024x16x8x64, .f32⟩
  | .hbm, ⟨33, _⟩ => ⟨S16x8x1024x64, .f32⟩
  | .hbm, ⟨34, _⟩ => ⟨S16x8x8x128x64, .f32⟩
  | .hbm, ⟨35, _⟩ => ⟨S_, .i32⟩
  | .hbm, ⟨36, _⟩ => ⟨S_, .f32⟩
  | .hbm, ⟨37, _⟩ => ⟨S16x8x9x128x64, .f32⟩
  | .hbm, ⟨38, _⟩ => ⟨S16x8x8x128x64, .f32⟩
  | .hbm, ⟨39, _⟩ => ⟨S16x8x8x256x64, .f32⟩
  | .hbm, ⟨40, _⟩ => ⟨S16x8x8x128x256, .f32⟩
  | .hbm, ⟨41, _⟩ => ⟨S_, .f32⟩
  | .hbm, ⟨42, _⟩ => ⟨S16x8x8x128x256, .f32⟩
  | .hbm, ⟨43, _⟩ => ⟨S16x8x8x128x256, .f32⟩
  | .hbm, ⟨44, _⟩ => ⟨S128, .i32⟩
  | .hbm, ⟨45, _⟩ => ⟨S128x1, .i32⟩
  | .hbm, ⟨46, _⟩ => ⟨S256, .i32⟩
  | .hbm, ⟨47, _⟩ => ⟨S1x256, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S8, .i32⟩
  | .hbm, ⟨62, _⟩ => ⟨S8x1x1, .i32⟩
  | .hbm, ⟨63, _⟩ => ⟨S_, .i32⟩
  | .hbm, ⟨64, _⟩ => ⟨S8x1x1, .i32⟩
  | .hbm, ⟨65, _⟩ => ⟨S8x1x1, .i1⟩
  | .hbm, ⟨66, _⟩ => ⟨S_, .i32⟩
  | .hbm, ⟨67, _⟩ => ⟨S1x256, .i32⟩
  | .hbm, ⟨68, _⟩ => ⟨S1x256, .i1⟩
  | .hbm, ⟨69, _⟩ => ⟨S1x1x256, .i1⟩
  | .hbm, ⟨70, _⟩ => ⟨S8x1x256, .i1⟩
  | .hbm, ⟨71, _⟩ => ⟨S8x1x256, .i1⟩
  | .hbm, ⟨72, _⟩ => ⟨S8x1x256, .i1⟩
  | .hbm, ⟨73, _⟩ => ⟨S1x128x256, .i1⟩
  | .hbm, ⟨74, _⟩ => ⟨S8x128x256, .i1⟩
  | .hbm, ⟨75, _⟩ => ⟨S8x128x256, .i1⟩
  | .hbm, ⟨76, _⟩ => ⟨S8x128x256, .i1⟩
  | .hbm, ⟨77, _⟩ => ⟨S8x1x1x1, .f32⟩
  | .hbm, ⟨78, _⟩ => ⟨S_, .i32⟩
  | .hbm, ⟨79, _⟩ => ⟨S128x256, .i32⟩
  | .hbm, ⟨80, _⟩ => ⟨S128x256, .i32⟩
  | .hbm, ⟨81, _⟩ => ⟨S128x256, .f32⟩
  | .hbm, ⟨82, _⟩ => ⟨S1x1x128x256, .f32⟩
  | .hbm, ⟨83, _⟩ => ⟨S8x1x128x256, .f32⟩
  | .hbm, ⟨84, _⟩ => ⟨S8x1x128x256, .f32⟩
  | .hbm, ⟨85, _⟩ => ⟨S8x1x128x256, .f32⟩
  | .hbm, ⟨86, _⟩ => ⟨S1x8x1x128x256, .f32⟩
  | .hbm, ⟨87, _⟩ => ⟨S16x8x8x128x256, .f32⟩
  | .hbm, ⟨88, _⟩ => ⟨S16x8x8x128x256, .f32⟩
  | .hbm, ⟨89, _⟩ => ⟨S_, .f32⟩
  | .hbm, ⟨90, _⟩ => ⟨S_, .f32⟩
  | .hbm, ⟨91, _⟩ => ⟨S16x8x8x128x256, .i1⟩
  | .hbm, ⟨92, _⟩ => ⟨S16x8x8x128x256, .f32⟩
  | .hbm, ⟨93, _⟩ => ⟨S16x8x8x128x256, .f32⟩
  | .hbm, ⟨94, _⟩ => ⟨S_, .f32⟩
  | .hbm, ⟨95, _⟩ => ⟨S16x8x8x128, .f32⟩
  | .hbm, ⟨96, _⟩ => ⟨S16x8x8x128x1, .f32⟩
  | .hbm, ⟨97, _⟩ => ⟨S16x8x8x128x256, .f32⟩
  | .hbm, ⟨98, _⟩ => ⟨S16x8x8x128x256, .f32⟩
  | .hbm, ⟨99, _⟩ => ⟨S16x8x8x128x256, .f32⟩
  | .hbm, ⟨100, _⟩ => ⟨S_, .f32⟩
  | .hbm, ⟨101, _⟩ => ⟨S16x8x8x128, .f32⟩
  | .hbm, ⟨102, _⟩ => ⟨S16x8x8x128x64, .f32⟩
  | .hbm, ⟨103, _⟩ => ⟨S16x8x1024x64, .f32⟩
  | .hbm, ⟨104, _⟩ => ⟨S1024x16x8x64, .f32⟩
  | .hbm, ⟨105, _⟩ => ⟨S16384x8x64, .f32⟩
  | .hbm, ⟨106, _⟩ => ⟨S16x8x1024, .f32⟩
  | .hbm, ⟨107, _⟩ => ⟨S1024x16x8, .f32⟩
  | .hbm, ⟨108, _⟩ => ⟨S16384x8, .f32⟩
  | .hbm, ⟨109, _⟩ => ⟨S16x8x1024, .f32⟩
  | .hbm, ⟨110, _⟩ => ⟨S1024x16x8, .f32⟩
  | .hbm, ⟨111, _⟩ => ⟨S16384x8, .f32⟩
  | .hbm, ⟨112, _⟩ => ⟨S_, .f32⟩
  | .hbm, ⟨113, _⟩ => ⟨S_, .f32⟩
  | .hbm, ⟨114, _⟩ => ⟨S16384x8, .f32⟩
  | .hbm, ⟨115, _⟩ => ⟨S16384x8, .f32⟩
  | .hbm, ⟨116, _⟩ => ⟨S_, .f32⟩
  | .hbm, ⟨117, _⟩ => ⟨S16384x112, .f32⟩
  | .hbm, ⟨118, _⟩ => ⟨S16384x128, .f32⟩
  | .hbm, ⟨119, _⟩ => ⟨S1024x8192, .f32⟩
  | .hbm, ⟨120, _⟩ => ⟨S1024x8192, .bf16⟩
  | .hbm, ⟨121, _⟩ => ⟨S1024x2048, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Ffn.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S_ : Shape := ⟨0, ![]⟩
abbrev S8x5632 : Shape := ⟨2, ![8, 5632]⟩
abbrev S512x1024 : Shape := ⟨2, ![512, 1024]⟩
abbrev S512x512 : Shape := ⟨2, ![512, 512]⟩
abbrev S512x256 : Shape := ⟨2, ![512, 256]⟩
abbrev S4x520x512 : Shape := ⟨3, ![4, 520, 512]⟩
abbrev S512x2816 : Shape := ⟨2, ![512, 2816]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S8x512 : Shape := ⟨2, ![8, 512]⟩
abbrev S1x520x512 : Shape := ⟨3, ![1, 520, 512]⟩
abbrev S520x512 : Shape := ⟨2, ![520, 512]⟩
abbrev S3x512 : Shape := ⟨2, ![3, 512]⟩
abbrev S1x512 : Shape := ⟨2, ![1, 512]⟩
abbrev S1024x256 : Shape := ⟨2, ![1024, 256]⟩
abbrev S8x256 : Shape := ⟨2, ![8, 256]⟩
abbrev S3x256 : Shape := ⟨2, ![3, 256]⟩
abbrev S1x256 : Shape := ⟨2, ![1, 256]⟩

abbrev nBuf : Space → Nat
  | .hbm => 17
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S_, .f32⟩
  | .hbm, ⟨14, _⟩ => ⟨S8x5632, .f32⟩
  | .hbm, ⟨15, _⟩ => ⟨S16384x1024, .f32⟩
  | .hbm, ⟨16, _⟩ => ⟨S8x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S8x5632, .f32⟩
  | .local _ .vmem, ⟨14, _⟩ => ⟨S512x1024, .f32⟩
  | .local _ .vmem, ⟨15, _⟩ => ⟨S512x1024, .f32⟩
  | .local _ .vmem, ⟨16, _⟩ => ⟨S8x5632, .f32⟩
  | .local _ .vmem, ⟨17, _⟩ => ⟨S8x5632, .f32⟩
  | .local _ .vmem, ⟨18, _⟩ => ⟨S4x520x512, .f32⟩
  | .local _ .vmem, ⟨19, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S8x5632 : Shape := ⟨2, ![8, 5632]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x5632, .f32⟩
  | .hbm, ⟨30, _⟩ => ⟨S_, .i32⟩
  | .hbm, ⟨31, _⟩ => ⟨S_, .f32⟩
  | .hbm, ⟨32, _⟩ => ⟨S16386x5632, .f32⟩
  | .hbm, ⟨33, _⟩ => ⟨S1x5632, .f32⟩
  | .hbm, ⟨34, _⟩ => ⟨S5632, .f32⟩
  | .hbm, ⟨35, _⟩ => ⟨S16384x5632, .f32⟩
  | .hbm, ⟨36, _⟩ => ⟨S1x5632, .f32⟩
  | .hbm, ⟨37, _⟩ => ⟨S16384x5632, .f32⟩
  | .hbm, ⟨38, _⟩ => ⟨S16384x5632, .f32⟩
  | .hbm, ⟨39, _⟩ => ⟨S_, .f32⟩
  | .hbm, ⟨40, _⟩ => ⟨S16384x5632, .f32⟩
  | .hbm, ⟨41, _⟩ => ⟨S16384x5632, .f32⟩
  | .hbm, ⟨42, _⟩ => ⟨S1x5632, .f32⟩
  | .hbm, ⟨43, _⟩ => ⟨S5632, .f32⟩
  | .hbm, ⟨44, _⟩ => ⟨S16384x5632, .f32⟩
  | .hbm, ⟨45, _⟩ => ⟨S1x5632, .f32⟩
  | .hbm, ⟨46, _⟩ => ⟨S16384x5632, .f32⟩
  | .hbm, ⟨47, _⟩ => ⟨S16384x5632, .f32⟩
  | .hbm, ⟨48, _⟩ => ⟨S16384x5632, .f32⟩
  | .hbm, ⟨49, _⟩ => ⟨S1x5632, .f32⟩
  | .hbm, ⟨50, _⟩ => ⟨S5632, .f32⟩
  | .hbm, ⟨51, _⟩ => ⟨S16384x5632, .f32⟩
  | .hbm, ⟨52, _⟩ => ⟨S1x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S_, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x1024, .f32⟩
  | .hbm, ⟨69, _⟩ => ⟨S16384x1024, .f32⟩
  | .hbm, ⟨70, _⟩ => ⟨S8x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Ffs.lean ====
abbrev S128x4x1024 : Shape := ⟨3, ![128, 4, 1024]⟩
abbrev S128x4x512 : Shape := ⟨3, ![128, 4, 512]⟩
abbrev S128x4x256 : Shape := ⟨3, ![128, 4, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S128x2x5632 : Shape := ⟨3, ![128, 2, 5632]⟩
abbrev S2x128x5632 : Shape := ⟨3, ![2, 128, 5632]⟩
abbrev S256x5632 : Shape := ⟨2, ![256, 5632]⟩
abbrev S4x128x1024 : Shape := ⟨3, ![4, 128, 1024]⟩
abbrev S512x1024 : Shape := ⟨2, ![512, 1024]⟩
abbrev S4x128x512 : Shape := ⟨3, ![4, 128, 512]⟩
abbrev S512x512 : Shape := ⟨2, ![512, 512]⟩
abbrev S4x128x256 : Shape := ⟨3, ![4, 128, 256]⟩
abbrev S512x256 : Shape := ⟨2, ![512, 256]⟩
abbrev S1x1024 : Shape := ⟨2, ![1, 1024]⟩
abbrev S4x768x512 : Shape := ⟨3, ![4, 768, 512]⟩
abbrev S512x2816 : Shape := ⟨2, ![512, 2816]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S256x512 : Shape := ⟨2, ![256, 512]⟩
abbrev S1x768x512 : Shape := ⟨3, ![1, 768, 512]⟩
abbrev S768x512 : Shape := ⟨2, ![768, 512]⟩
abbrev S3x512 : Shape := ⟨2, ![3, 512]⟩
abbrev S1x512 : Shape := ⟨2, ![1, 512]⟩
abbrev S1024x256 : Shape := ⟨2, ![1024, 256]⟩
abbrev S256x256 : Shape := ⟨2, ![256, 256]⟩
abbrev S3x256 : Shape := ⟨2, ![3, 256]⟩
abbrev S1x256 : Shape := ⟨2, ![1, 256]⟩

abbrev nBuf : Space → Nat
  | .hbm => 26
  | .vmem => 15
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S128x4x256, .bf16⟩
  | .hbm, ⟨3, _⟩ => ⟨S128x4x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S128x2x5632, .f32⟩
  | .hbm, ⟨10, _⟩ => ⟨S2x128x5632, .f32⟩
  | .hbm, ⟨11, _⟩ => ⟨S256x5632, .f32⟩
  | .hbm, ⟨12, _⟩ => ⟨S4x128x1024, .f32⟩
  | .hbm, ⟨13, _⟩ => ⟨S512x1024, .f32⟩
  | .hbm, ⟨14, _⟩ => ⟨S4x128x512, .bf16⟩
  | .hbm, ⟨15, _⟩ => ⟨S512x512, .bf16⟩
  | .hbm, ⟨16, _⟩ => ⟨S4x128x256, .bf16⟩
  | .hbm, ⟨17, _⟩ => ⟨S512x256, .bf16⟩
  | .hbm, ⟨18, _⟩ => ⟨S4x128x256, .bf16⟩
  | .hbm, ⟨19, _⟩ => ⟨S512x256, .bf16⟩
  | .hbm, ⟨20, _⟩ => ⟨S1024x1024, .bf16⟩
  | .hbm, ⟨21, _⟩ => ⟨S1x1024, .f32⟩
  | .hbm, ⟨22, _⟩ => ⟨S1024x5632, .bf16⟩
  | .hbm, ⟨23, _⟩ => ⟨S2816x1024, .bf16⟩
  | .hbm, ⟨24, _⟩ => ⟨S512x1024, .f32⟩
  | .hbm, ⟨25, _⟩ => ⟨S256x5632, .f32⟩
  | .local _ .vmem, ⟨0, _⟩ => ⟨S512x1024, .f32⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S256x5632, .f32⟩
  | .local _ .vmem, ⟨10, _⟩ => ⟨S512x1024, .f32⟩
  | .local _ .vmem, ⟨11, _⟩ => ⟨S256x5632, .f32⟩
  | .local _ .vmem, ⟨12, _⟩ => ⟨S256x5632, .f32⟩
  | .local _ .vmem, ⟨13, _⟩ => ⟨S4x768x512, .f32⟩
  | .local _ .vmem, ⟨14, _⟩ => ⟨S512x2816, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfsReferenceIdeal.lean ====
abbrev S128x4x1024 : Shape := ⟨3, ![128, 4, 1024]⟩
abbrev S128x4x512 : Shape := ⟨3, ![128, 4, 512]⟩
abbrev S128x4x256 : Shape := ⟨3, ![128, 4, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S128x2x5632 : Shape := ⟨3, ![128, 2, 5632]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x6x5632 : Shape := ⟨3, ![128, 6, 5632]⟩
abbrev S1x5632 : Shape := ⟨2, ![1, 5632]⟩
abbrev S5632 : Shape := ⟨1, ![5632]⟩
abbrev S1x1x5632 : Shape := ⟨3, ![1, 1, 5632]⟩
abbrev S128x4x2816 : Shape := ⟨3, ![128, 4, 2816]⟩
abbrev S4x128x1024 : Shape := ⟨3, ![4, 128, 1024]⟩
abbrev S512x1024 : Shape := ⟨2, ![512, 1024]⟩
abbrev S2x128x5632 : Shape := ⟨3, ![2, 128, 5632]⟩
abbrev S256x5632 : Shape := ⟨2, ![256, 5632]⟩

abbrev nBuf : Space → Nat
  | .hbm => 74
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S128x4x256, .bf16⟩
  | .hbm, ⟨3, _⟩ => ⟨S128x4x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S128x2x5632, .f32⟩
  | .hbm, ⟨10, _⟩ => ⟨S128x4x1024, .bf16⟩
  | .hbm, ⟨11, _⟩ => ⟨S128x4x1024, .f32⟩
  | .hbm, ⟨12, _⟩ => ⟨S128x4x1024, .f32⟩
  | .hbm, ⟨13, _⟩ => ⟨S128x4x1024, .f32⟩
  | .hbm, ⟨14, _⟩ => ⟨S128x4x1024, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x1024, .f32⟩
  | .hbm, ⟨26, _⟩ => ⟨S128x4x1024, .f32⟩
  | .hbm, ⟨27, _⟩ => ⟨S1x1x1024, .f32⟩
  | .hbm, ⟨28, _⟩ => ⟨S128x4x1024, .f32⟩
  | .hbm, ⟨29, _⟩ => ⟨S128x4x1024, .f32⟩
  | .hbm, ⟨30, _⟩ => ⟨S128x4x5632, .f32⟩
  | .hbm, ⟨31, _⟩ => ⟨S128x6x5632, .f32⟩
  | .hbm, ⟨32, _⟩ => ⟨S1x5632, .f32⟩
  | .hbm, ⟨33, _⟩ => ⟨S5632, .f32⟩
  | .hbm, ⟨34, _⟩ => ⟨S128x4x5632, .f32⟩
  | .hbm, ⟨35, _⟩ => ⟨S1x1x5632, .f32⟩
  | .hbm, ⟨36, _⟩ => ⟨S128x4x5632, .f32⟩
  | .hbm, ⟨37, _⟩ => ⟨S128x4x5632, .f32⟩
  | .hbm, ⟨38, _⟩ => ⟨S_, .f32⟩
  | .hbm, ⟨39, _⟩ => ⟨S128x4x5632, .f32⟩
  | .hbm, ⟨40, _⟩ => ⟨S128x4x5632, .f32⟩
  | .hbm, ⟨41, _⟩ => ⟨S1x5632, .f32⟩
  | .hbm, ⟨42, _⟩ => ⟨S5632, .f32⟩
  | .hbm, ⟨43, _⟩ => ⟨S128x4x5632, .f32⟩
  | .hbm, ⟨44, _⟩ => ⟨S1x1x5632, .f32⟩
  | .hbm, ⟨45, _⟩ => ⟨S128x4x5632, .f32⟩
  | .hbm, ⟨46, _⟩ => ⟨S128x4x5632, .f32⟩
  | .hbm, ⟨47, _⟩ => ⟨S128x4x5632, .f32⟩
  | .hbm, ⟨48, _⟩ => ⟨S1x5632, .f32⟩
  | .hbm, ⟨49, _⟩ => ⟨S5632, .f32⟩
  | .hbm, ⟨50, _⟩ => ⟨S128x4x5632, .f32⟩
  | .hbm, ⟨51, _⟩ => ⟨S1x1x5632, .f32⟩
  | .hbm, ⟨52, _⟩ => ⟨S128x4x5632, .f32⟩
  | .hbm, ⟨53, _⟩ => ⟨S128x4x5632, .f32⟩
  | .hbm, ⟨54, _⟩ => ⟨S128x4x5632, .f32⟩
  | .hbm, ⟨55, _⟩ => ⟨S128x4x2816, .f32⟩
  | .hbm, ⟨56, _⟩ => ⟨S128x4x2816, .f32⟩
  | .hbm, ⟨57, _⟩ => ⟨S128x4x2816, .f32⟩
  | .hbm, ⟨58, _⟩ => ⟨S128x4x2816, .f32⟩
  | .hbm, ⟨59, _⟩ => ⟨S_, .f32⟩
  | .hbm, ⟨60, _⟩ => ⟨S128x4x2816, .f32⟩
  | .hbm, ⟨61, _⟩ => ⟨S128x4x2816, .f32⟩
  | .hbm, ⟨62, _⟩ => ⟨S_, .f32⟩
  | .hbm, ⟨63, _⟩ => ⟨S128x4x2816, .f32⟩
  | .hbm, ⟨64, _⟩ => ⟨S128x4x2816, .f32⟩
  | .hbm, ⟨65, _⟩ => ⟨S128x4x2816, .f32⟩
  | .hbm, ⟨66, _⟩ => ⟨S128x4x2816, .f32⟩
  | .hbm, ⟨67, _⟩ => ⟨S128x4x1024, .f32⟩
  | .hbm, ⟨68, _⟩ => ⟨S128x4x1024, .f32⟩
  | .hbm, ⟨69, _⟩ => ⟨S4x128x1024, .f32⟩
  | .hbm, ⟨70, _⟩ => ⟨S512x1024, .f32⟩
  | .hbm, ⟨71, _⟩ => ⟨S128x2x5632, .f32⟩
  | .hbm, ⟨72, _⟩ => ⟨S2x128x5632, .f32⟩
  | .hbm, ⟨73, _⟩ => ⟨S256x5632, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Scale.lean ====
module

public import Idealize.ShloMosaic.PureOps.Ideal.Laws

/-! # Scaling scores by the logarithm of two

The kernel works with scores multiplied by `1 / log 2` and powers of two, the reference with the scores and exponentials. -/

@[expose] public section

noncomputable section

namespace Cert.Scale

open Idealize.ShloMosaic

/-- The factor. -/
def L : EReal := (((Real.log 2)⁻¹ : ℝ) : EReal)

theorem log2_pos : (0 : ℝ) < Real.log 2 := Real.log_pos (by norm_num)

theorem linv_pos : (0 : ℝ) < (Real.log 2)⁻¹ := inv_pos.mpr log2_pos

theorem coe_mul_add (c : ℝ) (h : 0 ≤ c) (x y : EReal) : (c : EReal) * (x + y) = c * x + c * y :=
  EReal.left_distrib_of_nonneg_of_ne_top (EReal.coe_nonneg.mpr h) (EReal.coe_ne_top c) x y

theorem coe_mul_sum {ι : Type} (c : ℝ) (h : 0 ≤ c) (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, coe_mul_add c h, ih]

theorem coe_mul_sub (c : ℝ) (h : 0 ≤ c) (x y : EReal) : (c : EReal) * x - c * y = c * (x - y) := by
  rw [sub_eq_add_neg, sub_eq_add_neg, coe_mul_add c h, mul_neg]

theorem coe_mul_sup {ι : Type} (c : ℝ) (h : 0 < c) (s : Finset ι) (f : ι → EReal) : (c : EReal) * s.sup f = s.sup fun i => (c : EReal) * f i := by
  have hm : Monotone fun x : EReal => (c : EReal) * x := fun x y hxy => mul_le_mul_of_nonneg_left hxy (EReal.coe_nonneg.mpr h.le)
  exact Finset.comp_sup_eq_sup_comp (fun x : EReal => (c : EReal) * x) (fun x y => hm.map_sup x y) (EReal.coe_mul_bot_of_pos h)

theorem exp2_L (x : EReal) : Ideal.exp2 (L * x) = Ideal.exp x := by
  unfold L
  induction x using EReal.rec with
  | bot => rw [EReal.coe_mul_bot_of_pos linv_pos]; rfl
  | top => rw [EReal.coe_mul_top_of_pos linv_pos]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ log2_pos.ne', one_mul]

/-- One row of scores, in the kernel's scale and the reference's. Where a key does not count, the kernel's bias is `⊥` and its key and value
may differ from the reference's. -/
theorem row_scores (w : ℝ) (hw : 0 ≤ w) (q : Fin 64 → EReal) (k k' : Fin 64 → EReal) (b sl dl : EReal) (p : Prop) [Decidable p] (hk : p → k = k')
    (hb : b = if p then -sl * dl * L else ⊥) :
    (∑ e, q e * w * L * k e) + b = L * (if p then (∑ e, q e * k' e) * w - sl * dl else ⊥) := by
  by_cases hp : p
  · rw [hb, if_pos hp, if_pos hp, hk hp]
    unfold L
    rw [← coe_mul_sub _ linv_pos.le, sub_eq_add_neg]
    refine congrArg₂ (· + ·) ?_ ?_
    · rw [mul_comm (∑ e, q e * k' e) (w : EReal), coe_mul_sum w hw, coe_mul_sum _ linv_pos.le]
      exact Finset.sum_congr rfl fun e _ => by ac_rfl
    · rw [← mul_neg, neg_mul_eq_neg_mul, mul_comm]
  · rw [hb, if_neg hp, if_neg hp, EReal.add_bot]
    exact (EReal.coe_mul_bot_of_pos linv_pos).symm

theorem row_weight (s s' : Fin 256 → EReal) (h : ∀ j, s j = L * s' j) (j : Fin 256) :
    Ideal.exp2 (s j - Finset.univ.sup s) = Ideal.exp (s' j - Finset.univ.sup s') := by
  rw [show s = fun j => L * s' j from funext h]
  unfold L
  rw [← coe_mul_sup _ linv_pos, coe_mul_sub _ linv_pos.le]
  exact exp2_L _

theorem row_top (s s' : Fin 256 → EReal) (h : ∀ j, s j = L * s' j) : Finset.univ.sup s = Finset.univ.sup s' * L := by
  rw [show s = fun j => L * s' j from funext h, mul_comm]
  exact (coe_mul_sup _ linv_pos _ _).symm

/-- The weighted values of a row. -/
theorem row_values (s s' v v' : Fin 256 → EReal) (h : ∀ j, s j = L * s' j) (hv : ∀ j, s' j = ⊥ ∨ v j = v' j) :
    (∑ j, Ideal.exp2 (s j - Finset.univ.sup s) * v j) = ∑ j, Ideal.exp (s' j - Finset.univ.sup s') * v' j := by
  refine Finset.sum_congr rfl fun j _ => ?_
  rw [row_weight s s' h j]
  rcases hv j with hj | hj
  · rw [hj, sub_eq_add_neg, EReal.bot_add]
    show (0 : EReal) * _ = 0 * _
    rw [zero_mul, zero_mul]
  · rw [hj]

end Cert.Scale

end
-- ==== Proof.Head.lean ====
module

public import proofs.«01_k».proof.Proof.Gen.KernelIdeal.Skeleton
public import Idealize.ShloMosaic.Lib.Pointwise
public import proofs.«01_k».proof.Proof.Scale

/-! # One attention head on one block of rows

The vector program a block of 128 query rows runs for a head, written once. The printed program repeats it for every block of rows and
every head; each of those stretches is one of the terms here. -/

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F] [Named F]

/-- The number of each lane. -/
def lane : IVec S128x128 32 := iota .tc S128x128 32 [1] iota_S128x128_d1_w32

/-- The lanes of the first head of a pair. -/
def low : IVec S128x128 1 := cmpi .slt lane (broadcast S128x128 64#32)

/-- The lanes of the second head of a pair. -/
def high : IVec S128x128 1 := xori low (constantI S128x128 1 1#1)

/-- The block of keys (or values) before, then the block itself. -/
def stack (a b : Vec F S128x128 .bf16) : FVec F S256x128 .bf16 :=
  concatenate S256x128 0 [⟨S128x128, shapeCast S128x128 a shapeCasts_S128x128_S128x128⟩, ⟨S128x128, shapeCast S128x128 b shapeCasts_S128x128_S128x128⟩]
    concatenates_S128x128_S128x128_S256x128_d0

/-- Values with a column block of ones beside them. -/
def ext (v : FVec F S256x128 .bf16) : FVec F S256x256 .bf16 :=
  concatenate S256x256 1 [⟨S256x128, v⟩, ⟨S256x128, broadcast S256x128 (Scalar.ofBits .bf16 0x3F80#16)⟩] concatenates_S256x128_S256x128_S256x256_d1

/-- The scores of one head: the masked queries against the keys, with the bias, in units of `log 2`. -/
def score (msk : IVec S128x128 1) (q : Vec F S128x128 .bf16) (k : FVec F S256x128 .bf16) (b : Vec F S1x1x128x256 .f32) : FVec F S128x256 .f32 :=
  mulf (addf (matmul dot_S128x128_S256x128_S128x256_1_1_0_0_n_n none
      (select msk (shapeCast S128x128 q shapeCasts_S128x128_S128x128) (broadcast S128x128 (Scalar.ofBits .bf16 0x0000#16))) k
      (constant S128x256 .f32 0x00000000#32))
    (shapeCast S128x256 b shapeCasts_S1x1x128x256_S128x256)) (broadcast S128x256 (Named.named κ "log2e" 0x3FB8AA3B#32))

/-- The largest score of each row. -/
def top (s : FVec F S128x256 .f32) : FVec F S128x1 .f32 :=
  shapeCast S128x1 (multiReduction .maximumf [1] S128 s 0xFF800000#32 reduces_S128x256_S128 (.inl rfl) rfl) shapeCasts_S128_S128x1

/-- The weights against the values and the ones. -/
def outp (s : FVec F S128x256 .f32) (v : FVec F S256x128 .bf16) : FVec F S128x256 .f32 :=
  matmul dot_S128x256_S256x256_S128x256_1_0_0_1_n_n none
    (truncf .bf16 (exp2 (subf s (broadcastTo S128x256 (top s) broadcasts_S128x1_S128x256))) bitsLt_bf16_f32) (ext v) (constant S128x256 .f32 0x00000000#32)

/-- What is stored for a pair of heads. -/
def pairOut (q : Vec F S128x128 .bf16) (k v : FVec F S256x128 .bf16) (b0 b1 : Vec F S1x1x128x256 .f32) : FVec F S128x128 .bf16 :=
  truncf .bf16 (select low (extractStridedSlice S128x128 ![0, 0] (outp (score low q k b0) v) slices_S128x256_o0_0_S128x128)
    (extractStridedSlice S128x128 ![0, 0] (outp (score high q k b1) v) slices_S128x256_o0_0_S128x128)) bitsLt_bf16_f32

/-- The largest score and the sum of one head, set into their two lanes. -/
def lseHead (h0 h1 : BitVec 32) (msk : IVec S128x128 1) (q : Vec F S128x128 .bf16) (k v : FVec F S256x128 .bf16) (b : Vec F S1x1x128x256 .f32)
    (acc : FVec F S128x128 .f32) : FVec F S128x128 .f32 :=
  select (cmpi .eq lane (broadcast S128x128 h1)) (extractStridedSlice S128x128 ![0, 128] (outp (score msk q k b) v) slices_S128x256_o0_128_S128x128)
    (select (cmpi .eq lane (broadcast S128x128 h0))
      (broadcastTo S128x128 (shapeCast S128x1 (top (score msk q k b)) shapeCasts_S128x1_S128x1) broadcasts_S128x1_S128x128) acc)

/-- The statistics of all eight heads. -/
def lseAll (q : Fin 4 → Vec F S128x128 .bf16) (k v : Fin 4 → FVec F S256x128 .bf16) (b : Fin 8 → Vec F S1x1x128x256 .f32) : FVec F S128x128 .f32 :=
  lseHead 7#32 15#32 high (q 3) (k 3) (v 3) (b 7) <| lseHead 6#32 14#32 low (q 3) (k 3) (v 3) (b 6) <|
  lseHead 5#32 13#32 high (q 2) (k 2) (v 2) (b 5) <| lseHead 4#32 12#32 low (q 2) (k 2) (v 2) (b 4) <|
  lseHead 3#32 11#32 high (q 1) (k 1) (v 1) (b 3) <| lseHead 2#32 10#32 low (q 1) (k 1) (v 1) (b 2) <|
  lseHead 1#32 9#32 high (q 0) (k 0) (v 0) (b 1) <| lseHead 0#32 8#32 low (q 0) (k 0) (v 0) (b 0) <|
  broadcast S128x128 (Scalar.ofBits .f32 0x00000000#32)

/-- The same, the biases named one by one. -/
def lseAll8 (q : Fin 4 → Vec F S128x128 .bf16) (k v : Fin 4 → FVec F S256x128 .bf16) (b0 b1 b2 b3 b4 b5 b6 b7 : Vec F S1x1x128x256 .f32) : FVec F S128x128 .f32 :=
  lseHead 7#32 15#32 high (q 3) (k 3) (v 3) b7 <| lseHead 6#32 14#32 low (q 3) (k 3) (v 3) b6 <|
  lseHead 5#32 13#32 high (q 2) (k 2) (v 2) b5 <| lseHead 4#32 12#32 low (q 2) (k 2) (v 2) b4 <|
  lseHead 3#32 11#32 high (q 1) (k 1) (v 1) b3 <| lseHead 2#32 10#32 low (q 1) (k 1) (v 1) b2 <|
  lseHead 1#32 9#32 high (q 0) (k 0) (v 0) b1 <| lseHead 0#32 8#32 low (q 0) (k 0) (v 0) b0 <|
  broadcast S128x128 (Scalar.ofBits .f32 0x00000000#32)

/-! ## Read at an index, over the extended reals -/

/-- The head's own lanes among the 128 of its pair. -/
def lanes (half : Fin 2) : IVec S128x128 1 := if half = 0 then low else high

/-- The score of query row `r` and key row `j` in the head whose 64 columns begin at `64 * half`. -/
def sc (half : Fin 2) (q : FVec Ideal S128x128 .bf16) (k : FVec Ideal S256x128 .bf16) (b : FVec Ideal S1x1x128x256 .f32) (r : Fin 128) (j : Fin 256) : EReal :=
  ((∑ e : Fin 64, q (ix2 r ⟨64 * half.val + e.val, by omega⟩) * k (ix2 j ⟨64 * half.val + e.val, by omega⟩)) + b (ix4 0 0 r j)) * Scale.L

theorem log2e_eq : Named.named (F := Ideal) (φ := .f32) κ "log2e" 0x3FB8AA3B#32 = Scale.L := IdealRules.named_const.ideal_named_scalar _ _ _ _ rfl

theorem low_apply (r c : Fin 128) : low (ix2 r c : S128x128.Idx) = if c.val < 64 then 1#1 else 0#1 := by
  revert r c; unfold low lane; intro r c
  pointwise
  revert c; decide +kernel

theorem high_apply (r c : Fin 128) : high (ix2 r c : S128x128.Idx) = if c.val < 64 then 0#1 else 1#1 := by
  unfold high
  pointwise [low_apply]
  revert c; decide +kernel

/-- A sum over the lanes of a pair in which only one head's lanes count. -/
theorem half_sum (half : Fin 2) (f : Fin 128 → EReal) :
    (∑ x : Fin 128, if x.val / 64 = half.val then f x else 0) = ∑ e : Fin 64, f ⟨64 * half.val + e.val, by omega⟩ := by
  rw [Fin.sum_univ_two_halves 64 64 rfl]
  obtain rfl | rfl : half = 0 ∨ half = 1 := by omega
  · rw [Finset.sum_eq_zero (f := fun k : Fin 64 => if (64 + k.val) / 64 = (0 : Fin 2).val then f ⟨64 + k.val, _⟩ else 0)
      (fun k _ => if_neg (by simp)), add_zero]
    exact Finset.sum_congr rfl fun e _ => (if_pos (by simp <;> omega)).trans (congrArg f (Fin.ext (by simp)))
  · rw [Finset.sum_eq_zero (f := fun k : Fin 64 => if k.val / 64 = (1 : Fin 2).val then f ⟨k.val, _⟩ else 0)
      (fun k _ => if_neg (by simp; omega)), zero_add]
    exact Finset.sum_congr rfl fun e _ => (if_pos (by simp <;> omega)).trans (congrArg f (Fin.ext (by simp)))

theorem score_apply (half : Fin 2) (q : FVec Ideal S128x128 .bf16) (k : FVec Ideal S256x128 .bf16) (b : FVec Ideal S1x1x128x256 .f32) (r : Fin 128) (j : Fin 256) :
    score (F := Ideal) (lanes half) q k b (ix2 r j : S128x256.Idx) = sc half q k b r j := by
  unfold score sc
  pointwise
  refine congrArg₂ (· * ·) (congrArg (· + b (ix4 0 0 r j)) ?_) log2e_eq
  have hc : ∀ x : Fin 128, lanes half (ix2 r x : S128x128.Idx) = if x.val / 64 = half.val then 1#1 else 0#1 := by
    intro x
    unfold lanes
    obtain rfl | rfl : half = 0 ∨ half = 1 := by omega
    · rw [if_pos rfl, low_apply]
      exact if_congr (by simp <;> omega) rfl rfl
    · rw [if_neg (by decide), high_apply]
      by_cases h : x.val < 64
      · rw [if_pos h, if_neg (by simp; omega)]
      · rw [if_neg h, if_pos (by simp; omega)]
  rw [← half_sum half fun x => q (ix2 r x) * k (ix2 j x)]
  refine Finset.sum_congr rfl fun x _ => ?_
  rw [hc]
  by_cases h : x.val / 64 = half.val
  · rw [if_pos h, if_pos h]; rfl
  · rw [if_neg h, if_neg h]; rfl

theorem top_apply (s : FVec Ideal S128x256 .f32) (r : Fin 128) (z : Fin 1) :
    top (F := Ideal) s (ix2 r z : S128x1.Idx) = Finset.univ.sup fun j : Fin 256 => s (ix2 r j) := by
  unfold top
  pointwise
  rw [show Ideal.ofBits FTy.f32 4286578688#32 = ⊥ by simp [Ideal.ofBits, Ideal.ieee]]
  rfl

theorem outp_apply_low (s : FVec Ideal S128x256 .f32) (v : FVec Ideal S256x128 .bf16) (r c : Fin 128) :
    extractStridedSlice S128x128 ![0, 0] (outp (F := Ideal) s v) slices_S128x256_o0_0_S128x128 (ix2 r c : S128x128.Idx)
      = ∑ j : Fin 256, Ideal.exp2 (s (ix2 r j) - Finset.univ.sup fun j : Fin 256 => s (ix2 r j)) * v (ix2 j c) := by
  pointwise [outp, ext, top_apply]
  rfl

theorem outp_apply_high (s : FVec Ideal S128x256 .f32) (v : FVec Ideal S256x128 .bf16) (r c : Fin 128) :
    extractStridedSlice S128x128 ![0, 128] (outp (F := Ideal) s v) slices_S128x256_o0_128_S128x128 (ix2 r c : S128x128.Idx)
      = ∑ j : Fin 256, Ideal.exp2 (s (ix2 r j) - Finset.univ.sup fun j : Fin 256 => s (ix2 r j)) := by
  pointwise [outp, ext, top_apply]
  rfl

end Cert.KernelIdeal.Head

end
-- ==== Proof.Block.lean ====
module

public import proofs.«01_k».proof.Proof.Head
public import Idealize.ShloMosaic.Lib.Pipeline.ValueKit.Tiles

/-! # A block of rows inside the arrays a grid point holds

What a grid point stores is read here at an index, as sums over the point's own arrays: its queries `X0`, the keys before it `X1` and its own
keys `X2`, the values before it `X3` and its own `X4`, and the table of biases `X5`. -/

@[expose] public section

set_option maxRecDepth 16384

noncomputable section

namespace Cert.KernelIdeal.Head

open Cert.KernelIdeal Cert.KernelIdeal.Gen Idealize.ShloMosaic Idealize.ShloMosaic.TcCoe Idealize.SL.Sem

/-- An array of `R` rows and 512 columns. -/
abbrev Rows (R : ℕ) : Shape := ⟨2, ![R, 512]⟩

variable {F : FTy → Type} [FloatOps F] [Named F] {R : ℕ} [NeZero R]

/-- The `n` by 128 part of an array that begins at row `a` and column `b`. -/
def cut (n : ℕ) (X : Vec F (Rows R) .bf16) (a b : ℕ) : Vec F ⟨2, ![n, 128]⟩ .bf16 :=
  fun i => X (ix2 (Fin.ofNat R (a + (i 0).val)) (Fin.ofNat 512 (b + (i 1).val)))

/-- One head's table of biases. -/
def bcut (X : Vec F S2x8x128x256 .f32) (f h : ℕ) : Vec F S1x1x128x256 .f32 :=
  fun i => X (ix4 (Fin.ofNat 2 f) (Fin.ofNat 8 h) (i 2) (i 3))

theorem ld_cut (n : ℕ) (X : Vec F (Rows R) .bf16) (a b : ℕ) (h : ∀ k, (![a, b] : Fin 2 → ℕ) k + (⟨2, ![n, 128]⟩ : Shape).size k ≤ (Rows R).size k) :
    (View.ld (Val := Elt F) X (Rect.unit (s := Rows R) ![a, b] (⟨2, ![n, 128]⟩ : Shape).size h) : Vec F ⟨2, ![n, 128]⟩ .bf16) = cut n X a b := by
  have h0 : a + n ≤ R := h 0
  have h1 : b + 128 ≤ 512 := h 1
  funext i
  have i0 : (i 0).val < n := (i 0).isLt
  have i1 : (i 1).val < 128 := (i 1).isLt
  refine congrArg X (funext fun k => Fin.ext ((Rect.idx_unit_val _ _ _ _ _).trans (Eq.symm ?_)))
  match k with
  | ⟨0, _⟩ => exact Nat.mod_eq_of_lt (show a + (i 0).val < R by omega)
  | ⟨1, _⟩ => exact Nat.mod_eq_of_lt (show b + (i 1).val < 512 by omega)

theorem ld_bcut (X : Vec F S2x8x128x256 .f32) (f g : ℕ)
    (h : ∀ k, (![f, g, 0, 0] : Fin 4 → ℕ) k + S1x1x128x256.size k ≤ S2x8x128x256.size k) :
    (View.ld (Val := Elt F) X (Rect.unit (s := S2x8x128x256) ![f, g, 0, 0] S1x1x128x256.size h) : Vec F S1x1x128x256 .f32) = bcut X f g := by
  have h0 : f + 1 ≤ 2 := h 0
  have h1 : g + 1 ≤ 8 := h 1
  funext i
  have i0 : (i 0).val < 1 := (i 0).isLt
  have i1 : (i 1).val < 1 := (i 1).isLt
  refine congrArg X (funext fun k => Fin.ext ((Rect.idx_unit_val _ _ _ _ _).trans (Eq.symm ?_)))
  match k with
  | ⟨0, _⟩ => exact (Nat.mod_eq_of_lt (show f < 2 by omega)).trans (show f = f + (i 0).val by omega)
  | ⟨1, _⟩ => exact (Nat.mod_eq_of_lt (show g < 8 by omega)).trans (show g = g + (i 1).val by omega)
  | ⟨2, _⟩ => exact (Nat.zero_add _).symm
  | ⟨3, _⟩ => exact (Nat.zero_add _).symm

/-! ## The sums -/

/-- Row `p` of the keys (or values) of a grid point, the 128 rows before its own counted first. -/
def row (X1 : Vec Ideal (Rows 128) .bf16) (X2 : Vec Ideal (Rows R) .bf16) (p : ℕ) (c : Fin 512) : EReal :=
  if p < 128 then X1 (ix2 (Fin.ofNat 128 p) c) else X2 (ix2 (Fin.ofNat R (p - 128)) c)

/-- The score of query row `r` of block `blk` and key row `j` of the pair of blocks, in head `h`. -/
def scr (X0 : Vec Ideal (Rows R) .bf16) (X1 : Vec Ideal (Rows 128) .bf16) (X2 : Vec Ideal (Rows R) .bf16) (X5 : Vec Ideal S2x8x128x256 .f32)
    (f blk : ℕ) (h : Fin 8) (r : Fin 128) (j : Fin 256) : EReal :=
  ((∑ e : Fin 64, X0 (ix2 (Fin.ofNat R (128 * blk + r.val)) ⟨64 * h.val + e.val, by omega⟩) * row X1 X2 (128 * blk + j.val) ⟨64 * h.val + e.val, by omega⟩)
    + X5 (ix4 (Fin.ofNat 2 f) h r j)) * Scale.L

/-- The weight that belongs to a score, before it is divided by the sum of the row. -/
def wgt (s : Fin 256 → EReal) (j : Fin 256) : EReal := Ideal.exp2 (s j - Finset.univ.sup s)

/-- What is stored for head `h`. -/
def num (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) (f blk : ℕ) (r : Fin 128) (c : Fin 512) : EReal :=
  ∑ j : Fin 256, wgt (scr X0 X1 X2 X5 f blk ⟨c.val / 64, by omega⟩ r) j * row X3 X4 (128 * blk + j.val) c

/-- The statistics stored in lane `l`: the largest scores of the heads, then their sums, then zero. -/
def stat (X0 : Vec Ideal (Rows R) .bf16) (X1 : Vec Ideal (Rows 128) .bf16) (X2 : Vec Ideal (Rows R) .bf16) (X5 : Vec Ideal S2x8x128x256 .f32)
    (f blk : ℕ) (r l : Fin 128) : EReal :=
  if h : l.val < 8 then Finset.univ.sup (scr X0 X1 X2 X5 f blk ⟨l.val, h⟩ r)
  else if h : l.val < 16 then ∑ j : Fin 256, wgt (scr X0 X1 X2 X5 f blk ⟨l.val - 8, by omega⟩ r) j
  else 0

/-- The keys (or values) of a block: for the first block of a grid point the 128 rows before, then its own. -/
def pairOf (X1 : Vec F (Rows 128) .bf16) (X2 : Vec F (Rows R) .bf16) : ℕ → ℕ → FVec F S256x128 .bf16
  | 0, b => stack (cut 128 X1 0 b) (cut 128 X2 0 b)
  | blk + 1, b => shapeCast S256x128 (cut 256 X2 (128 * blk) b) shapeCasts_S256x128_S256x128

theorem pairOf_apply (X1 : Vec Ideal (Rows 128) .bf16) (X2 : Vec Ideal (Rows R) .bf16) (blk p : ℕ) (hp : p < 4) (j : Fin 256) (e : Fin 128) :
    pairOf (F := Ideal) X1 X2 blk (128 * p) (ix2 j e : S256x128.Idx) = row X1 X2 (128 * blk + j.val) ⟨128 * p + e.val, by omega⟩ := by
  have hc : Fin.ofNat 512 (128 * p + e.val) = (⟨128 * p + e.val, by omega⟩ : Fin 512) := Fin.ext (Nat.mod_eq_of_lt (by omega))
  cases blk with
  | zero =>
    unfold pairOf stack row
    pointwise
    unfold cut
    by_cases h : j.val < 128
    · rw [dif_pos h, if_pos h]
      exact congrArg X1 (congrArg₂ ix2 (Fin.ext (by simp [Fin.ofNat])) hc)
    · rw [dif_neg h, if_neg h]
      exact congrArg X2 (congrArg₂ ix2 (Fin.ext (by simp [Fin.ofNat])) hc)
  | succ blk =>
    unfold pairOf row cut
    pointwise
    rw [if_neg (by omega)]
    exact congrArg X2 (congrArg₂ ix2 (congrArg _ (by omega)) hc)

theorem sc_block (X0 : Vec Ideal (Rows R) .bf16) (X1 : Vec Ideal (Rows 128) .bf16) (X2 : Vec Ideal (Rows R) .bf16) (X5 : Vec Ideal S2x8x128x256 .f32)
    (f blk p : ℕ) (hp : p < 4) (half : Fin 2) (r : Fin 128) (j : Fin 256) :
    sc half (cut 128 X0 (128 * blk) (128 * p)) (pairOf (F := Ideal) X1 X2 blk (128 * p)) (bcut X5 f (2 * p + half.val)) r j
      = scr X0 X1 X2 X5 f blk ⟨2 * p + half.val, by omega⟩ r j := by
  unfold sc scr
  refine congrArg (· * Scale.L) ?_
  refine congrArg₂ (· + ·) (Finset.sum_congr rfl fun e _ => ?_) ?_
  · rw [pairOf_apply _ _ _ _ hp]
    refine congrArg₂ (· * ·) (congrArg X0 (congrArg₂ ix2 rfl (Fin.ext ?_))) (congrArg (row X1 X2 _) (Fin.ext ?_))
    · exact (Nat.mod_eq_of_lt (show 128 * p + (64 * half.val + e.val) < 512 by omega)).trans (show _ = 64 * (2 * p + half.val) + e.val by omega)
    · show 128 * p + (64 * half.val + e.val) = 64 * (2 * p + half.val) + e.val
      omega
  · refine congrArg X5 (funext fun k => ?_)
    match k with
    | ⟨0, _⟩ => rfl
    | ⟨1, _⟩ => exact Fin.ext (Nat.mod_eq_of_lt (show 2 * p + half.val < 8 by omega))
    | ⟨2, _⟩ => rfl
    | ⟨3, _⟩ => rfl

theorem scores_block (X0 : Vec Ideal (Rows R) .bf16) (X1 : Vec Ideal (Rows 128) .bf16) (X2 : Vec Ideal (Rows R) .bf16) (X5 : Vec Ideal S2x8x128x256 .f32)
    (f blk p : ℕ) (hp : p < 4) (half : Fin 2) (r : Fin 128) :
    (fun j : Fin 256 => score (F := Ideal) (lanes half) (cut 128 X0 (128 * blk) (128 * p)) (pairOf (F := Ideal) X1 X2 blk (128 * p))
      (bcut X5 f (2 * p + half.val)) (ix2 r j : S128x256.Idx)) = scr X0 X1 X2 X5 f blk ⟨2 * p + half.val, by omega⟩ r :=
  funext fun j => (score_apply half _ _ _ r j).trans (sc_block X0 X1 X2 X5 f blk p hp half r j)

/-- The weighted values of one head of a pair, in the lanes of that head. -/
theorem outp_block (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) (f blk p : ℕ) (hp : p < 4) (half : Fin 2) (r c : Fin 128) (hc : c.val / 64 = half.val) :
    extractStridedSlice S128x128 ![0, 0] (outp (F := Ideal) (score (lanes half) (cut 128 X0 (128 * blk) (128 * p)) (pairOf X1 X2 blk (128 * p))
      (bcut X5 f (2 * p + half.val))) (pairOf X3 X4 blk (128 * p))) slices_S128x256_o0_0_S128x128 (ix2 r c : S128x128.Idx)
      = num X0 X1 X2 X3 X4 X5 f blk r ⟨128 * p + c.val, by omega⟩ := by
  rw [outp_apply_low]
  have hs := scores_block X0 X1 X2 X5 f blk p hp half r
  have hh : (⟨(⟨128 * p + c.val, by omega⟩ : Fin 512).val / 64, by omega⟩ : Fin 8) = ⟨2 * p + half.val, by omega⟩ := Fin.ext (by simp; omega)
  unfold num
  rw [hh, ← hs]
  exact Finset.sum_congr rfl fun j _ => congrArg₂ (· * ·) rfl (pairOf_apply _ _ _ _ hp _ _)

/-- What is stored for a pair of heads. -/
theorem pairOut_block (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) (f blk p : ℕ) (hp : p < 4) (r c : Fin 128) :
    pairOut (F := Ideal) (cut 128 X0 (128 * blk) (128 * p)) (pairOf X1 X2 blk (128 * p)) (pairOf X3 X4 blk (128 * p))
      (bcut X5 f (2 * p)) (bcut X5 f (2 * p + 1)) (ix2 r c : S128x128.Idx) = num X0 X1 X2 X3 X4 X5 f blk r ⟨128 * p + c.val, by omega⟩ := by
  have h0 := outp_block X0 X1 X2 X3 X4 X5 f blk p hp 0 r c
  have h1 := outp_block X0 X1 X2 X3 X4 X5 f blk p hp 1 r c
  show Scalar.select (low (ix2 r c : S128x128.Idx)) _ _ = _
  rw [low_apply]
  by_cases h : c.val < 64
  · rw [if_pos h]
    exact h0 (by simp; omega)
  · rw [if_neg h]
    exact h1 (by simp; omega)

theorem lane_eq (n : ℕ) (hn : n < 16) (r l : Fin 128) :
    cmpi .eq lane (broadcast S128x128 (BitVec.ofNat 32 n)) (ix2 r l : S128x128.Idx) = if l.val = n then 1#1 else 0#1 := by
  unfold lane
  pointwise
  have : (⟨n, hn⟩ : Fin 16).val = n := rfl
  rw [← this]
  generalize (⟨n, hn⟩ : Fin 16) = k
  revert l k; decide +kernel

theorem sel0 (a b : EReal) : Scalar.select 0#1 a b = b := rfl
theorem sel1 (a b : EReal) : Scalar.select 1#1 a b = a := rfl

theorem top_lane (s : FVec Ideal S128x256 .f32) (r l : Fin 128) :
    broadcastTo S128x128 (shapeCast S128x1 (top (F := Ideal) s) shapeCasts_S128x1_S128x1) broadcasts_S128x1_S128x128 (ix2 r l : S128x128.Idx)
      = Finset.univ.sup fun j : Fin 256 => s (ix2 r j) := by
  pointwise [top_apply]

/-- One head's statistics, set over those of the heads before it. -/
theorem lseHead_block (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) (f blk p : ℕ) (hp : p < 4) (half : Fin 2) (h0 h1 : BitVec 32)
    (e0 : h0 = BitVec.ofNat 32 (2 * p + half.val)) (e1 : h1 = BitVec.ofNat 32 (8 + (2 * p + half.val))) (acc : FVec Ideal S128x128 .f32) (r l : Fin 128) :
    lseHead (F := Ideal) h0 h1 (lanes half) (cut 128 X0 (128 * blk) (128 * p)) (pairOf X1 X2 blk (128 * p)) (pairOf X3 X4 blk (128 * p))
      (bcut X5 f (2 * p + half.val)) acc (ix2 r l : S128x128.Idx)
      = if l.val = 2 * p + half.val ∨ l.val = 8 + (2 * p + half.val) then stat X0 X1 X2 X5 f blk r l else acc (ix2 r l) := by
  have hs := scores_block X0 X1 X2 X5 f blk p hp half r
  subst e0 e1
  show Scalar.select (cmpi .eq lane (broadcast S128x128 _) (ix2 r l : S128x128.Idx)) _
    (Scalar.select (cmpi .eq lane (broadcast S128x128 _) (ix2 r l : S128x128.Idx)) _ _) = _
  rw [lane_eq _ (by omega), lane_eq _ (by omega)]
  by_cases h8 : l.val = 8 + (2 * p + half.val)
  · rw [if_pos h8, if_pos (Or.inr h8)]
    refine (sel1 _ _).trans ((outp_apply_high _ _ _ _).trans ?_)
    unfold stat
    rw [dif_neg (by omega), dif_pos (by omega)]
    have hh : (⟨l.val - 8, by omega⟩ : Fin 8) = ⟨2 * p + half.val, by omega⟩ := Fin.ext (by simp; omega)
    rw [hh, ← hs]
    rfl
  · rw [if_neg h8]
    by_cases h0 : l.val = 2 * p + half.val
    · rw [if_pos h0, if_pos (Or.inl h0)]
      unfold stat
      rw [dif_pos (by omega)]
      have hh : (⟨l.val, by omega⟩ : Fin 8) = ⟨2 * p + half.val, by omega⟩ := Fin.ext h0
      rw [hh, ← hs]
      exact (sel0 _ _).trans ((sel1 _ _).trans (top_lane _ r l))
    · rw [if_neg h0, if_neg (by omega)]
      exact (sel0 _ _).trans (sel0 _ _)

/-- The statistics of a block. -/
theorem lseAll_block (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) (f blk : ℕ) (r l : Fin 128) :
    lseAll (F := Ideal) (fun p => cut 128 X0 (128 * blk) (128 * p.val)) (fun p => pairOf X1 X2 blk (128 * p.val)) (fun p => pairOf X3 X4 blk (128 * p.val))
      (fun h => bcut X5 f h.val) (ix2 r l : S128x128.Idx) = stat X0 X1 X2 X5 f blk r l := by
  have hd := fun (p : ℕ) (hp : p < 4) (half : Fin 2) => lseHead_block X0 X1 X2 X3 X4 X5 f blk p hp half _ _ rfl rfl
  unfold lseAll
  refine (hd 3 (by omega) 1 _ r l).trans (ite_eq_left_iff.mpr fun n7 => ?_)
  refine (hd 3 (by omega) 0 _ r l).trans (ite_eq_left_iff.mpr fun n6 => ?_)
  refine (hd 2 (by omega) 1 _ r l).trans (ite_eq_left_iff.mpr fun n5 => ?_)
  refine (hd 2 (by omega) 0 _ r l).trans (ite_eq_left_iff.mpr fun n4 => ?_)
  refine (hd 1 (by omega) 1 _ r l).trans (ite_eq_left_iff.mpr fun n3 => ?_)
  refine (hd 1 (by omega) 0 _ r l).trans (ite_eq_left_iff.mpr fun n2 => ?_)
  refine (hd 0 (by omega) 1 _ r l).trans (ite_eq_left_iff.mpr fun n1 => ?_)
  refine (hd 0 (by omega) 0 _ r l).trans (ite_eq_left_iff.mpr fun n0 => ?_)
  simp only [Fin.isValue, Fin.val_zero, Fin.val_one] at n0 n1 n2 n3 n4 n5 n6 n7
  unfold stat
  rw [dif_neg (by omega), dif_neg (by omega)]
  pointwise

/-! ## A grid point's blocks, as the program loads and stores them -/

theorem rect_le {n a b : ℕ} (ha : a + n ≤ R) (hb : b + 128 ≤ 512) (k : Fin 2) : (![a, b] : Fin 2 → ℕ) k + (⟨2, ![n, 128]⟩ : Shape).size k ≤ (Rows R).size k :=
  match k with
  | ⟨0, _⟩ => ha
  | ⟨1, _⟩ => hb

theorem bias_le {f g : ℕ} (hf : f + 1 ≤ 2) (hg : g + 1 ≤ 8) (k : Fin 4) : (![f, g, 0, 0] : Fin 4 → ℕ) k + S1x1x128x256.size k ≤ S2x8x128x256.size k :=
  match k with
  | ⟨0, _⟩ => hf
  | ⟨1, _⟩ => hg
  | ⟨2, _⟩ => le_refl 128
  | ⟨3, _⟩ => le_refl 256

/-- A part of an array, loaded. -/
def ldc (n : ℕ) (X : Vec F (Rows R) .bf16) (a b : ℕ) (ha : a + n ≤ R) (hb : b + 128 ≤ 512) : Vec F ⟨2, ![n, 128]⟩ .bf16 :=
  View.ld (Val := Elt F) X (Rect.unit (s := Rows R) ![a, b] (⟨2, ![n, 128]⟩ : Shape).size (rect_le ha hb))

/-- A head's biases, loaded. -/
def ldb (X : Vec F S2x8x128x256 .f32) (f g : ℕ) (hf : f + 1 ≤ 2) (hg : g + 1 ≤ 8) : Vec F S1x1x128x256 .f32 :=
  View.ld (Val := Elt F) X (Rect.unit (s := S2x8x128x256) ![f, g, 0, 0] S1x1x128x256.size (bias_le hf hg))

/-- A head's biases, loaded from offsets that are computed. -/
def ldo (X : Vec F S2x8x128x256 .f32) (o : Fin 4 → ℕ) (h : ∀ k, o k + S1x1x128x256.size k ≤ S2x8x128x256.size k) : Vec F S1x1x128x256 .f32 :=
  View.ld (Val := Elt F) X (Rect.unit (s := S2x8x128x256) o S1x1x128x256.size h)

theorem ldo_eq (X : Vec F S2x8x128x256 .f32) (o : Fin 4 → ℕ) (h : ∀ k, o k + S1x1x128x256.size k ≤ S2x8x128x256.size k) (f g : ℕ) (e : o = ![f, g, 0, 0]) :
    ldo X o h = bcut X f g := by subst e; exact ld_bcut _ _ _ _

/-- The keys (or values) of a later block. -/
def ldS (X : Vec F (Rows R) .bf16) (blk b : ℕ) (ha : 128 * (blk + 2) ≤ R) (hb : b + 128 ≤ 512) : FVec F S256x128 .bf16 :=
  shapeCast S256x128 (ldc 256 X (128 * blk) b (by omega) hb) shapeCasts_S256x128_S256x128

/-- The keys (or values) of the first block. -/
def ldZ (X1 : Vec F (Rows 128) .bf16) (X2 : Vec F (Rows R) .bf16) (b : ℕ) (ha : 128 ≤ R) (hb : b + 128 ≤ 512) : FVec F S256x128 .bf16 :=
  stack (ldc 128 X1 0 b (by omega) hb) (ldc 128 X2 0 b (by omega) hb)

theorem ldc_eq (n : ℕ) (X : Vec F (Rows R) .bf16) (a b : ℕ) (ha : a + n ≤ R) (hb : b + 128 ≤ 512) : ldc n X a b ha hb = cut n X a b := ld_cut _ _ _ _ _

theorem ldb_eq (X : Vec F S2x8x128x256 .f32) (f g : ℕ) (hf : f + 1 ≤ 2) (hg : g + 1 ≤ 8) : ldb X f g hf hg = bcut X f g := ld_bcut _ _ _ _

/-- What a grid point leaves in its block of the first result; the first block of rows takes table `f`, the others table 0. -/
def O (f : ℕ) (X0 : Vec Ideal (Rows R) .bf16) (X1 : Vec Ideal (Rows 128) .bf16) (X2 : Vec Ideal (Rows R) .bf16) (X3 : Vec Ideal (Rows 128) .bf16)
    (X4 : Vec Ideal (Rows R) .bf16) (X5 : Vec Ideal S2x8x128x256 .f32) : Vec Ideal (Rows R) .bf16 :=
  fun i => num X0 X1 X2 X3 X4 X5 (if (i 0).val < 128 then f else 0) ((i 0).val / 128) ⟨(i 0).val % 128, by omega⟩ (i 1)

/-- What a grid point leaves in its block of the second result. -/
def L (f : ℕ) (X0 : Vec Ideal (Rows R) .bf16) (X1 : Vec Ideal (Rows 128) .bf16) (X2 : Vec Ideal (Rows R) .bf16) (X5 : Vec Ideal S2x8x128x256 .f32) :
    Vec Ideal ⟨2, ![R, 128]⟩ .f32 :=
  fun i => stat X0 X1 X2 X5 (if (i 0).val < 128 then f else 0) ((i 0).val / 128) ⟨(i 0).val % 128, by omega⟩ (i 1)

section pieces

variable (f : ℕ) (X0 : Vec Ideal (Rows R) .bf16) (X1 : Vec Ideal (Rows 128) .bf16) (X2 : Vec Ideal (Rows R) .bf16)
  (X3 : Vec Ideal (Rows 128) .bf16) (X4 : Vec Ideal (Rows R) .bf16) (X5 : Vec Ideal S2x8x128x256 .f32)

theorem O_at (g blk p : ℕ) (hp : p < 4) (hg : g = if blk = 0 then f else 0) (h : ∀ k, (![128 * blk, 128 * p] : Fin 2 → ℕ) k + S128x128.size k ≤ (Rows R).size k)
    (x : S128x128.Idx) :
    pairOut (F := Ideal) (cut 128 X0 (128 * blk) (128 * p)) (pairOf X1 X2 blk (128 * p)) (pairOf X3 X4 blk (128 * p))
      (bcut X5 g (2 * p)) (bcut X5 g (2 * p + 1)) x = O f X0 X1 X2 X3 X4 X5 ((Rect.unit (s := Rows R) ![128 * blk, 128 * p] S128x128.size h).emb x) := by
  obtain ⟨r, c, rfl⟩ : ∃ (r c : Fin 128), x = ix2 r c := ⟨x 0, x 1, ValueIdx.eq_ix2 x⟩
  rw [pairOut_block _ _ _ _ _ _ _ _ _ hp]
  have e0 : (((Rect.unit (s := Rows R) ![128 * blk, 128 * p] S128x128.size h).emb (ix2 r c : S128x128.Idx)) 0).val = 128 * blk + r.val := Rect.idx_unit_val _ _ _ _ _
  have e1 : (((Rect.unit (s := Rows R) ![128 * blk, 128 * p] S128x128.size h).emb (ix2 r c : S128x128.Idx)) 1) = (⟨128 * p + c.val, by omega⟩ : Fin 512) := Fin.ext (Rect.idx_unit_val _ _ _ _ _)
  unfold O
  rw [e1]
  congr 1
  · rw [e0, hg]
    exact if_congr (by omega) rfl rfl
  · rw [e0]; omega
  · exact Fin.ext (by simp only [e0]; omega)

theorem L_at (g blk : ℕ) (hg : g = if blk = 0 then f else 0) (h : ∀ k, (![128 * blk, 0] : Fin 2 → ℕ) k + S128x128.size k ≤ (⟨2, ![R, 128]⟩ : Shape).size k)
    (x : S128x128.Idx) :
    lseAll (F := Ideal) (fun p => cut 128 X0 (128 * blk) (128 * p.val)) (fun p => pairOf X1 X2 blk (128 * p.val)) (fun p => pairOf X3 X4 blk (128 * p.val))
      (fun h => bcut X5 g h.val) x = L f X0 X1 X2 X5 ((Rect.unit (s := ⟨2, ![R, 128]⟩) ![128 * blk, 0] S128x128.size h).emb x) := by
  obtain ⟨r, c, rfl⟩ : ∃ (r c : Fin 128), x = ix2 r c := ⟨x 0, x 1, ValueIdx.eq_ix2 x⟩
  rw [lseAll_block]
  have e0 : (((Rect.unit (s := ⟨2, ![R, 128]⟩) ![128 * blk, 0] S128x128.size h).emb (ix2 r c : S128x128.Idx)) 0).val = 128 * blk + r.val := Rect.idx_unit_val _ _ _ _ _
  have e1 : (((Rect.unit (s := ⟨2, ![R, 128]⟩) ![128 * blk, 0] S128x128.size h).emb (ix2 r c : S128x128.Idx)) 1) = (c : Fin 128) :=
    Fin.ext ((Rect.idx_unit_val _ _ _ _ _).trans (Nat.zero_add _))
  unfold L
  rw [e1]
  congr 1
  · rw [e0, hg]
    exact if_congr (by omega) rfl rfl
  · rw [e0]; omega
  · exact Fin.ext (by simp only [e0]; omega)

/-- The stored pair of heads of a later block. -/
theorem O_later (blk p : ℕ) (hb : 128 * (blk + 2) ≤ R) (hp : p < 4) (h : ∀ k, (![128 * (blk + 1), 128 * p] : Fin 2 → ℕ) k + S128x128.size k ≤ (Rows R).size k) :
    ∀ x : S128x128.Idx, pairOut (F := Ideal) (ldc 128 X0 (128 * (blk + 1)) (128 * p) (by omega) (by omega)) (ldS X2 blk (128 * p) hb (by omega))
      (ldS X4 blk (128 * p) hb (by omega)) (ldb X5 0 (2 * p) (by omega) (by omega)) (ldb X5 0 (2 * p + 1) (by omega) (by omega)) x
      = O f X0 X1 X2 X3 X4 X5 ((Rect.unit (s := Rows R) ![128 * (blk + 1), 128 * p] S128x128.size h).emb x) := by
  intro x
  unfold ldS
  simp only [ldc_eq, ldb_eq]
  exact O_at f X0 X1 X2 X3 X4 X5 0 (blk + 1) p hp (if_neg (by omega)).symm h x

/-- The stored pair of heads of the first block. -/
theorem O_first (o0 o1 : Fin 4 → ℕ) (h0 : ∀ k, o0 k + S1x1x128x256.size k ≤ S2x8x128x256.size k) (h1 : ∀ k, o1 k + S1x1x128x256.size k ≤ S2x8x128x256.size k)
    (p : ℕ) (e0 : o0 = ![f, 2 * p, 0, 0]) (e1 : o1 = ![f, 2 * p + 1, 0, 0]) (hb : 128 ≤ R) (hp : p < 4)
    (h : ∀ k, (![0, 128 * p] : Fin 2 → ℕ) k + S128x128.size k ≤ (Rows R).size k) :
    ∀ x : S128x128.Idx, pairOut (F := Ideal) (ldc 128 X0 0 (128 * p) (by omega) (by omega)) (ldZ X1 X2 (128 * p) hb (by omega))
      (ldZ X3 X4 (128 * p) hb (by omega)) (ldo X5 o0 h0) (ldo X5 o1 h1) x
      = O f X0 X1 X2 X3 X4 X5 ((Rect.unit (s := Rows R) ![0, 128 * p] S128x128.size h).emb x) := by
  intro x
  unfold ldZ
  rw [ldo_eq _ _ _ _ _ e0, ldo_eq _ _ _ _ _ e1]
  simp only [ldc_eq]
  exact O_at f X0 X1 X2 X3 X4 X5 f 0 p hp (if_pos rfl).symm h x

/-- The stored statistics of a later block. -/
theorem L_later (blk : ℕ) (hb : 128 * (blk + 2) ≤ R) (h : ∀ k, (![128 * (blk + 1), 0] : Fin 2 → ℕ) k + S128x128.size k ≤ (⟨2, ![R, 128]⟩ : Shape).size k) :
    ∀ x : S128x128.Idx, lseAll (F := Ideal) (fun p => ldc 128 X0 (128 * (blk + 1)) (128 * p.val) (by omega) (by omega))
      (fun p => ldS X2 blk (128 * p.val) hb (by omega)) (fun p => ldS X4 blk (128 * p.val) hb (by omega)) (fun g => ldb X5 0 g.val (by omega) (by omega)) x
      = L f X0 X1 X2 X5 ((Rect.unit (s := ⟨2, ![R, 128]⟩) ![128 * (blk + 1), 0] S128x128.size h).emb x) := by
  intro x
  unfold ldS
  simp only [ldc_eq, ldb_eq]
  exact L_at f X0 X1 X2 X1 X4 X5 0 (blk + 1) (if_neg (by omega)).symm h x

/-- The stored statistics of the first block. -/
theorem L_first (o0 o1 o2 o3 o4 o5 o6 o7 : Fin 4 → ℕ) (h0 : ∀ k, o0 k + S1x1x128x256.size k ≤ S2x8x128x256.size k) (h1 : ∀ k, o1 k + S1x1x128x256.size k ≤ S2x8x128x256.size k) (h2 : ∀ k, o2 k + S1x1x128x256.size k ≤ S2x8x128x256.size k) (h3 : ∀ k, o3 k + S1x1x128x256.size k ≤ S2x8x128x256.size k) (h4 : ∀ k, o4 k + S1x1x128x256.size k ≤ S2x8x128x256.size k) (h5 : ∀ k, o5 k + S1x1x128x256.size k ≤ S2x8x128x256.size k) (h6 : ∀ k, o6 k + S1x1x128x256.size k ≤ S2x8x128x256.size k) (h7 : ∀ k, o7 k + S1x1x128x256.size k ≤ S2x8x128x256.size k)
    (e0 : o0 = ![f, 0, 0, 0]) (e1 : o1 = ![f, 1, 0, 0]) (e2 : o2 = ![f, 2, 0, 0]) (e3 : o3 = ![f, 3, 0, 0]) (e4 : o4 = ![f, 4, 0, 0]) (e5 : o5 = ![f, 5, 0, 0]) (e6 : o6 = ![f, 6, 0, 0]) (e7 : o7 = ![f, 7, 0, 0])
    (hb : 128 ≤ R) (h : ∀ k, (![0, 0] : Fin 2 → ℕ) k + S128x128.size k ≤ (⟨2, ![R, 128]⟩ : Shape).size k) :
    ∀ x : S128x128.Idx, lseAll8 (F := Ideal) (fun p => ldc 128 X0 0 (128 * p.val) (by omega) (by omega))
      (fun p => ldZ X1 X2 (128 * p.val) hb (by omega)) (fun p => ldZ X3 X4 (128 * p.val) hb (by omega)) (ldo X5 o0 h0) (ldo X5 o1 h1) (ldo X5 o2 h2) (ldo X5 o3 h3) (ldo X5 o4 h4) (ldo X5 o5 h5) (ldo X5 o6 h6) (ldo X5 o7 h7) x
      = L f X0 X1 X2 X5 ((Rect.unit (s := ⟨2, ![R, 128]⟩) ![0, 0] S128x128.size h).emb x) := by
  intro x
  unfold ldZ
  rw [ldo_eq _ _ _ _ _ e0, ldo_eq _ _ _ _ _ e1, ldo_eq _ _ _ _ _ e2, ldo_eq _ _ _ _ _ e3, ldo_eq _ _ _ _ _ e4, ldo_eq _ _ _ _ _ e5, ldo_eq _ _ _ _ _ e6, ldo_eq _ _ _ _ _ e7]
  simp only [ldc_eq]
  exact L_at f X0 X1 X2 X3 X4 X5 f 0 (if_pos rfl).symm h x

end pieces

end Cert.KernelIdeal.Head

end
-- ==== Proof.Pieces.lean ====
module

public import proofs.«01_k».proof.Proof.Block
public import proofs.«01_k».proof.Proof.Gen.KernelIdeal.Value

/-! # What a grid point stores, block of rows by block of rows -/

@[expose] public section

set_option maxRecDepth 16384

noncomputable section

namespace Cert.KernelIdeal.Pieces

open Cert.KernelIdeal Cert.KernelIdeal.Gen Cert.KernelIdeal.Head Idealize.ShloMosaic Idealize.ShloMosaic.TcCoe Idealize.SL.Sem

set_option maxHeartbeats 2000000

/-- The statistics a grid point leaves. -/
theorem out7
    (c : Dev nD) (i : grid0.Coords)
    (a0 : Memref sig .tc .vmem S1024x512 .bf16) (w0 : a0.IsWhole) (a1 : Memref sig .tc .vmem S128x512 .bf16) (w1 : a1.IsWhole)
    (a2 : Memref sig .tc .vmem S1024x512 .bf16) (w2 : a2.IsWhole) (a3 : Memref sig .tc .vmem S128x512 .bf16) (w3 : a3.IsWhole)
    (a4 : Memref sig .tc .vmem S1024x512 .bf16) (w4 : a4.IsWhole) (a5 : Memref sig .tc .vmem S2x8x128x256 .f32) (w5 : a5.IsWhole)
    (a6 : Memref sig .tc .vmem S1024x512 .bf16) (w6 : a6.IsWhole) (a7 : Memref sig .tc .vmem S1024x128 .f32) (w7 : a7.IsWhole)
    (X0 : Vec Ideal S1024x512 .bf16) (X1 : Vec Ideal S128x512 .bf16) (X2 : Vec Ideal S1024x512 .bf16)
    (X3 : Vec Ideal S128x512 .bf16) (X4 : Vec Ideal S1024x512 .bf16) (X5 : Vec Ideal S2x8x128x256 .f32) :
    out0_A_7 c i a0 w0 a1 w1 a2 w2 a3 w3 a4 w4 a5 w5 a6 w6 a7 w7 X0 X1 X2 X3 X4 X5 = L (R := 1024) 1 X0 X1 X2 X5 := by
  unfold out0_A_7
  rw [View.read_writes_eq_canon _ _ _ (cover0_A_7 c i a0 w0 a1 w1 a2 w2 a3 w3 a4 w4 a5 w5 a6 w6 a7 w7 X0 X1 X2 X3 X4 X5)]
  have hc := cover0_A_7 c i a0 w0 a1 w1 a2 w2 a3 w3 a4 w4 a5 w5 a6 w6 a7 w7 X0 X1 X2 X3 X4 X5
  refine funext fun y => View.canon_apply_of_pieces _ _ ?_ y (hc y)
  clear hc
  unfold kernelRun0_A
  dsimp only
  sl_unfold_words
  simp only [View.readAt_eq_ld, w0.read_unread, w1.read_unread, w2.read_unread, w3.read_unread, w4.read_unread, w5.read_unread]
  refine List.forall_mem_cons.mpr ⟨L_later (R := 1024) 1 X0 X1 X2 X4 X5 6 (by omega) (by decide), ?_⟩
  refine List.forall_mem_cons.mpr ⟨L_later (R := 1024) 1 X0 X1 X2 X4 X5 5 (by omega) (by decide), ?_⟩
  refine List.forall_mem_cons.mpr ⟨L_later (R := 1024) 1 X0 X1 X2 X4 X5 4 (by omega) (by decide), ?_⟩
  refine List.forall_mem_cons.mpr ⟨L_later (R := 1024) 1 X0 X1 X2 X4 X5 3 (by omega) (by decide), ?_⟩
  refine List.forall_mem_cons.mpr ⟨L_later (R := 1024) 1 X0 X1 X2 X4 X5 2 (by omega) (by decide), ?_⟩
  refine List.forall_mem_cons.mpr ⟨L_later (R := 1024) 1 X0 X1 X2 X4 X5 1 (by omega) (by decide), ?_⟩
  refine List.forall_mem_cons.mpr ⟨L_later (R := 1024) 1 X0 X1 X2 X4 X5 0 (by omega) (by decide), ?_⟩
  refine List.forall_mem_cons.mpr ⟨L_first (R := 1024) 1 X0 X1 X2 X3 X4 X5 (k0_off1 i) (k0_off2 i) (k0_off3 i) (k0_off4 i) (k0_off5 i) (k0_off6 i) (k0_off7 i) (k0_off8 i) (Gen.k0_off1_inb i) (Gen.k0_off2_inb i) (Gen.k0_off3_inb i) (Gen.k0_off4_inb i) (Gen.k0_off5_inb i) (Gen.k0_off6_inb i) (Gen.k0_off7_inb i) (Gen.k0_off8_inb i)
      (Gen.k0_off1_eq i) (Gen.k0_off2_eq i) (Gen.k0_off3_eq i) (Gen.k0_off4_eq i) (Gen.k0_off5_eq i) (Gen.k0_off6_eq i) (Gen.k0_off7_eq i) (Gen.k0_off8_eq i) (by omega) (by decide), ?_⟩
  exact fun p hp => absurd hp List.not_mem_nil

/-- The weighted values a grid point leaves. -/
theorem out6
    (c : Dev nD) (i : grid0.Coords)
    (a0 : Memref sig .tc .vmem S1024x512 .bf16) (w0 : a0.IsWhole) (a1 : Memref sig .tc .vmem S128x512 .bf16) (w1 : a1.IsWhole)
    (a2 : Memref sig .tc .vmem S1024x512 .bf16) (w2 : a2.IsWhole) (a3 : Memref sig .tc .vmem S128x512 .bf16) (w3 : a3.IsWhole)
    (a4 : Memref sig .tc .vmem S1024x512 .bf16) (w4 : a4.IsWhole) (a5 : Memref sig .tc .vmem S2x8x128x256 .f32) (w5 : a5.IsWhole)
    (a6 : Memref sig .tc .vmem S1024x512 .bf16) (w6 : a6.IsWhole) (a7 : Memref sig .tc .vmem S1024x128 .f32) (w7 : a7.IsWhole)
    (X0 : Vec Ideal S1024x512 .bf16) (X1 : Vec Ideal S128x512 .bf16) (X2 : Vec Ideal S1024x512 .bf16)
    (X3 : Vec Ideal S128x512 .bf16) (X4 : Vec Ideal S1024x512 .bf16) (X5 : Vec Ideal S2x8x128x256 .f32) :
    out0_A_6 c i a0 w0 a1 w1 a2 w2 a3 w3 a4 w4 a5 w5 a6 w6 a7 w7 X0 X1 X2 X3 X4 X5 = O (R := 1024) 1 X0 X1 X2 X3 X4 X5 := by
  unfold out0_A_6
  rw [View.read_writes_eq_canon _ _ _ (cover0_A_6 c i a0 w0 a1 w1 a2 w2 a3 w3 a4 w4 a5 w5 a6 w6 a7 w7 X0 X1 X2 X3 X4 X5)]
  have hc := cover0_A_6 c i a0 w0 a1 w1 a2 w2 a3 w3 a4 w4 a5 w5 a6 w6 a7 w7 X0 X1 X2 X3 X4 X5
  refine funext fun y => View.canon_apply_of_pieces _ _ ?_ y (hc y)
  clear hc
  unfold kernelRun0_A
  dsimp only
  sl_unfold_words
  simp only [View.readAt_eq_ld, w0.read_unread, w1.read_unread, w2.read_unread, w3.read_unread, w4.read_unread, w5.read_unread]
  refine List.forall_mem_cons.mpr ⟨O_later (R := 1024) 1 X0 X1 X2 X3 X4 X5 6 3 (by omega) (by omega) (by decide), ?_⟩
  refine List.forall_mem_cons.mpr ⟨O_later (R := 1024) 1 X0 X1 X2 X3 X4 X5 6 2 (by omega) (by omega) (by decide), ?_⟩
  refine List.forall_mem_cons.mpr ⟨O_later (R := 1024) 1 X0 X1 X2 X3 X4 X5 6 1 (by omega) (by omega) (by decide), ?_⟩
  refine List.forall_mem_cons.mpr ⟨O_later (R := 1024) 1 X0 X1 X2 X3 X4 X5 6 0 (by omega) (by omega) (by decide), ?_⟩
  refine List.forall_mem_cons.mpr ⟨O_later (R := 1024) 1 X0 X1 X2 X3 X4 X5 5 3 (by omega) (by omega) (by decide), ?_⟩
  refine List.forall_mem_cons.mpr ⟨O_later (R := 1024) 1 X0 X1 X2 X3 X4 X5 5 2 (by omega) (by omega) (by decide), ?_⟩
  refine List.forall_mem_cons.mpr ⟨O_later (R := 1024) 1 X0 X1 X2 X3 X4 X5 5 1 (by omega) (by omega) (by decide), ?_⟩
  refine List.forall_mem_cons.mpr ⟨O_later (R := 1024) 1 X0 X1 X2 X3 X4 X5 5 0 (by omega) (by omega) (by decide), ?_⟩
  refine List.forall_mem_cons.mpr ⟨O_later (R := 1024) 1 X0 X1 X2 X3 X4 X5 4 3 (by omega) (by omega) (by decide), ?_⟩
  refine List.forall_mem_cons.mpr ⟨O_later (R := 1024) 1 X0 X1 X2 X3 X4 X5 4 2 (by omega) (by omega) (by decide), ?_⟩
  refine List.forall_mem_cons.mpr ⟨O_later (R := 1024) 1 X0 X1 X2 X3 X4 X5 4 1 (by omega) (by omega) (by decide), ?_⟩
  refine List.forall_mem_cons.mpr ⟨O_later (R := 1024) 1 X0 X1 X2 X3 X4 X5 4 0 (by omega) (by omega) (by decide), ?_⟩
  refine List.forall_mem_cons.mpr ⟨O_later (R := 1024) 1 X0 X1 X2 X3 X4 X5 3 3 (by omega) (by omega) (by decide), ?_⟩
  refine List.forall_mem_cons.mpr ⟨O_later (R := 1024) 1 X0 X1 X2 X3 X4 X5 3 2 (by omega) (by omega) (by decide), ?_⟩
  refine List.forall_mem_cons.mpr ⟨O_later (R := 1024) 1 X0 X1 X2 X3 X4 X5 3 1 (by omega) (by omega) (by decide), ?_⟩
  refine List.forall_mem_cons.mpr ⟨O_later (R := 1024) 1 X0 X1 X2 X3 X4 X5 3 0 (by omega) (by omega) (by decide), ?_⟩
  refine List.forall_mem_cons.mpr ⟨O_later (R := 1024) 1 X0 X1 X2 X3 X4 X5 2 3 (by omega) (by omega) (by decide), ?_⟩
  refine List.forall_mem_cons.mpr ⟨O_later (R := 1024) 1 X0 X1 X2 X3 X4 X5 2 2 (by omega) (by omega) (by decide), ?_⟩
  refine List.forall_mem_cons.mpr ⟨O_later (R := 1024) 1 X0 X1 X2 X3 X4 X5 2 1 (by omega) (by omega) (by decide), ?_⟩
  refine List.forall_mem_cons.mpr ⟨O_later (R := 1024) 1 X0 X1 X2 X3 X4 X5 2 0 (by omega) (by omega) (by decide), ?_⟩
  refine List.forall_mem_cons.mpr ⟨O_later (R := 1024) 1 X0 X1 X2 X3 X4 X5 1 3 (by omega) (by omega) (by decide), ?_⟩
  refine List.forall_mem_cons.mpr ⟨O_later (R := 1024) 1 X0 X1 X2 X3 X4 X5 1 2 (by omega) (by omega) (by decide), ?_⟩
  refine List.forall_mem_cons.mpr ⟨O_later (R := 1024) 1 X0 X1 X2 X3 X4 X5 1 1 (by omega) (by omega) (by decide), ?_⟩
  refine List.forall_mem_cons.mpr ⟨O_later (R := 1024) 1 X0 X1 X2 X3 X4 X5 1 0 (by omega) (by omega) (by decide), ?_⟩
  refine List.forall_mem_cons.mpr ⟨O_later (R := 1024) 1 X0 X1 X2 X3 X4 X5 0 3 (by omega) (by omega) (by decide), ?_⟩
  refine List.forall_mem_cons.mpr ⟨O_later (R := 1024) 1 X0 X1 X2 X3 X4 X5 0 2 (by omega) (by omega) (by decide), ?_⟩
  refine List.forall_mem_cons.mpr ⟨O_later (R := 1024) 1 X0 X1 X2 X3 X4 X5 0 1 (by omega) (by omega) (by decide), ?_⟩
  refine List.forall_mem_cons.mpr ⟨O_later (R := 1024) 1 X0 X1 X2 X3 X4 X5 0 0 (by omega) (by omega) (by decide), ?_⟩
  refine List.forall_mem_cons.mpr ⟨O_first (R := 1024) 1 X0 X1 X2 X3 X4 X5 (k0_off7 i) (k0_off8 i) (Gen.k0_off7_inb i) (Gen.k0_off8_inb i) 3 (Gen.k0_off7_eq i) (Gen.k0_off8_eq i) (by omega) (by omega) (by decide), ?_⟩
  refine List.forall_mem_cons.mpr ⟨O_first (R := 1024) 1 X0 X1 X2 X3 X4 X5 (k0_off5 i) (k0_off6 i) (Gen.k0_off5_inb i) (Gen.k0_off6_inb i) 2 (Gen.k0_off5_eq i) (Gen.k0_off6_eq i) (by omega) (by omega) (by decide), ?_⟩
  refine List.forall_mem_cons.mpr ⟨O_first (R := 1024) 1 X0 X1 X2 X3 X4 X5 (k0_off3 i) (k0_off4 i) (Gen.k0_off3_inb i) (Gen.k0_off4_inb i) 1 (Gen.k0_off3_eq i) (Gen.k0_off4_eq i) (by omega) (by omega) (by decide), ?_⟩
  refine List.forall_mem_cons.mpr ⟨O_first (R := 1024) 1 X0 X1 X2 X3 X4 X5 (k0_off1 i) (k0_off2 i) (Gen.k0_off1_inb i) (Gen.k0_off2_inb i) 0 (Gen.k0_off1_eq i) (Gen.k0_off2_eq i) (by omega) (by omega) (by decide), ?_⟩
  exact fun p hp => absurd hp List.not_mem_nil

end Cert.KernelIdeal.Pieces

end
-- ==== Proof.Band.lean ====
module

public import proofs.«01_k».proof.Proof.Block

/-! # Attention in a band, and what a grid point computes of it

The band attention of the reference for one dilation, written with sums and a supremum, and the proof that the sums of one grid point are these,
whatever the dilation and the number of rows of a grid point. -/

@[expose] public section

set_option maxRecDepth 16384

noncomputable section

namespace Cert.Band

open Cert.KernelIdeal.Head Idealize.ShloMosaic Idealize.ShloMosaic.TcCoe Idealize.SL.Sem

/-- Queries, keys or values. -/
abbrev Tok := Vec Ideal ⟨4, ![1, 16384, 8, 64]⟩ .f32

/-- Position `g` of the tokens that leave `p` modulo the dilation. -/
def tok (K : Tok) (dil p g : ℕ) (h : Fin 8) (e : Fin 64) : EReal := K (ix4 0 (Fin.ofNat 16384 (g * dil + p)) h e)

/-- Key (or value) `j` of the 256 that block `n` sees: the block before, zero before the first, then the block itself. -/
def key (K : Tok) (dil p n : ℕ) (j : Fin 256) (h : Fin 8) (e : Fin 64) : EReal :=
  if j.val < 128 then (if 1 ≤ n then tok K dil p ((n - 1) * 128 + j.val) h e else 0) else tok K dil p (n * 128 + (j.val - 128)) h e

/-- The slope of a head. -/
def slope (h : Fin 8) : EReal :=
  Ideal.exp (Ideal.ofBits FTy.f32 1060205080#32 *
    Ideal.div (Ideal.ofBits FTy.f32 3238002688#32 * FloatOps.sitofp (F := Ideal) FTy.f32 (IntOp.addi (1#32) (BitVec.ofNat 32 h.val)))
      (Ideal.ofBits FTy.f32 1090519040#32))

/-- How far key `j` lies behind query `r`, in steps of the dilation. -/
def delta (r : Fin 128) (j : Fin 256) : BitVec 32 := IntOp.subi (IntOp.addi (BitVec.ofNat 32 r.val) 128#32) (BitVec.ofNat 32 j.val)

/-- The same in tokens. -/
def dist (dilw : BitVec 32) (r : Fin 128) (j : Fin 256) : EReal := FloatOps.sitofp (F := Ideal) FTy.f32 (IntOp.muli (delta r j) dilw)

/-- Whether a key is in the band. -/
def band (r : Fin 128) (j : Fin 256) : BitVec 1 :=
  IntOp.andi (IntOp.cmpi .sge (delta r j) 0#32) (IntOp.cmpi .sle (delta r j) 128#32)

/-- The factor of the queries. -/
def c8 : EReal := Ideal.ofBits FTy.f32 1040187392#32

/-- The score of query `r` of block `n` and its key `j`. -/
def rs (Q K : Tok) (dil : ℕ) (dilw : BitVec 32) (p : ℕ) (h : Fin 8) (n : ℕ) (r : Fin 128) (j : Fin 256) : EReal :=
  if band r j = 1#1 ∧ (1 ≤ n ∨ 128 ≤ j.val) then
    (∑ x, tok Q dil p (n * 128 + r.val) h x * key K dil p n j h x) * c8 - slope h * dist dilw r j
  else ⊥

/-- The weight of a key before the division by the sum of the weights. -/
def wt (Q K : Tok) (dil : ℕ) (dilw : BitVec 32) (p : ℕ) (h : Fin 8) (n : ℕ) (r : Fin 128) (j : Fin 256) : EReal :=
  Ideal.exp (rs Q K dil dilw p h n r j - Finset.univ.sup (rs Q K dil dilw p h n r))

/-- The weighted values: row `g`, column `x` of the classes side by side. -/
def nums (Q K W : Tok) (dil : ℕ) (dilw : BitVec 32) (g x : ℕ) : EReal :=
  ∑ j, wt Q K dil dilw (x / 512) (Fin.ofNat 8 (x / 64 % 8)) (g / 128) (Fin.ofNat 128 (g % 128)) j
    * key W dil (x / 512) (g / 128) j (Fin.ofNat 8 (x / 64 % 8)) (Fin.ofNat 64 (x % 64))

/-- The statistics of the rows: the largest scores in units of `log 2`, the sums of the weights, zeros. -/
def stats (Q K : Tok) (dil : ℕ) (dilw : BitVec 32) (g x : ℕ) : EReal :=
  if x % 128 < 8 then Finset.univ.sup (rs Q K dil dilw (x / 128) (Fin.ofNat 8 (x % 128)) (g / 128) (Fin.ofNat 128 (g % 128))) * Scale.L
  else if x % 128 < 16 then ∑ j, wt Q K dil dilw (x / 128) (Fin.ofNat 8 (x % 128 - 8)) (g / 128) (Fin.ofNat 128 (g % 128)) j
  else 0

/-- The table of biases: with `f = 1` for a first block, which has no block before. -/
def table (dilw : BitVec 32) (f : Fin 2) (h : Fin 8) (r : Fin 128) (j : Fin 256) : EReal :=
  if band r j = 1#1 ∧ (f.val = 0 ∨ 128 ≤ j.val) then -slope h * dist dilw r j else ⊥

theorem tok_eq (K : Tok) (dil p g n : ℕ) (h : Fin 8) (e : Fin 64) (hn : n < 16384) (he : n = g * dil + p) : tok K dil p g h e = K (ix4 0 ⟨n, hn⟩ h e) := by
  subst he
  exact congrArg (fun x => K (ix4 0 x h e)) (Fin.ext (Nat.mod_eq_of_lt hn))

theorem select_prop (b : BitVec 1) (p : Prop) [Decidable p] (x y : EReal) (h : b = 1#1 ↔ p) : Scalar.select b x y = if p then x else y := by
  by_cases hp : p
  · rw [if_pos hp, h.mpr hp]; rfl
  · rw [if_neg hp]
    have : b = 0#1 := by
      have h' := mt h.mp hp
      clear h
      revert h'; revert b; decide
    rw [this]; rfl

theorem late_iff (j : Fin 256) : IntOp.cmpi .sge (BitVec.ofNat 32 j.val) 128#32 = 1#1 ↔ 128 ≤ j.val := by
  revert j; decide +kernel

theorem and_iff (a b : BitVec 1) : IntOp.andi a b = 1#1 ↔ a = 1#1 ∧ b = 1#1 := by
  revert a b; decide

theorem or_iff (a b : BitVec 1) : IntOp.ori a b = 1#1 ↔ a = 1#1 ∨ b = 1#1 := by
  revert a b; decide

theorem neg_inf : Ideal.ofBits FTy.f32 4286578688#32 = ⊥ := by simp [Ideal.ofBits, Ideal.ieee]

theorem zero_bits : Ideal.ofBits FTy.f32 0#32 = 0 := by simp [Ideal.ofBits, Ideal.ieee]

theorem c8_eq : c8 = ((1 / 8 : ℝ) : EReal) := by
  unfold c8
  simp [Ideal.ofBits, Ideal.ieee, -EReal.coe_mul]
  norm_num

section Point

variable {R : ℕ} [NeZero R] (Q K W : Tok) (dil : ℕ) (dilw : BitVec 32) (p n0 : ℕ)
  (X0 : Vec Ideal (Rows R) .bf16) (X1 : Vec Ideal (Rows 128) .bf16) (X2 : Vec Ideal (Rows R) .bf16)
  (X3 : Vec Ideal (Rows 128) .bf16) (X4 : Vec Ideal (Rows R) .bf16) (X5 : Vec Ideal Cert.KernelIdeal.S2x8x128x256 .f32)

/-- The rows a grid point sees are the keys of its blocks, where they count. -/
theorem row_key (K : Tok) (X1 : Vec Ideal (Rows 128) .bf16) (X2 : Vec Ideal (Rows R) .bf16)
    (h1 : 1 ≤ n0 → ∀ (i : Fin 128) (h : Fin 8) (e : Fin 64), X1 (ix2 i ⟨64 * h.val + e.val, by omega⟩) = tok K dil p ((n0 - 1) * 128 + i.val) h e)
    (h2 : ∀ (i : Fin R) (h : Fin 8) (e : Fin 64), X2 (ix2 i ⟨64 * h.val + e.val, by omega⟩) = tok K dil p (n0 * 128 + i.val) h e)
    (blk : ℕ) (hb : 128 * blk + 128 ≤ R) (j : Fin 256) (hj : 1 ≤ n0 + blk ∨ 128 ≤ j.val) (h : Fin 8) (e : Fin 64) :
    row X1 X2 (128 * blk + j.val) ⟨64 * h.val + e.val, by omega⟩ = key K dil p (n0 + blk) j h e := by
  unfold row key
  by_cases hlt : 128 * blk + j.val < 128
  · have hb0 : blk = 0 := by omega
    subst hb0
    rw [if_pos hlt, if_pos (by omega), if_pos (by omega), h1 (by omega)]
    refine congrArg (fun g => tok K dil p g h e) ?_
    show (n0 - 1) * 128 + (128 * 0 + j.val) % 128 = _
    omega
  · rw [if_neg hlt, h2]
    have hm : (Fin.ofNat R (128 * blk + j.val - 128)).val = 128 * blk + j.val - 128 := Nat.mod_eq_of_lt (by omega)
    rw [hm]
    by_cases hj' : j.val < 128
    · rw [if_pos hj', if_pos (by omega)]
      exact congrArg (fun g => tok K dil p g h e) (by omega)
    · rw [if_neg hj']
      exact congrArg (fun g => tok K dil p g h e) (by omega)

variable (h0 : ∀ (i : Fin R) (h : Fin 8) (e : Fin 64), X0 (ix2 i ⟨64 * h.val + e.val, by omega⟩) = tok Q dil p (n0 * 128 + i.val) h e * c8)
  (h1 : 1 ≤ n0 → ∀ (i : Fin 128) (h : Fin 8) (e : Fin 64), X1 (ix2 i ⟨64 * h.val + e.val, by omega⟩) = tok K dil p ((n0 - 1) * 128 + i.val) h e)
  (h2 : ∀ (i : Fin R) (h : Fin 8) (e : Fin 64), X2 (ix2 i ⟨64 * h.val + e.val, by omega⟩) = tok K dil p (n0 * 128 + i.val) h e)
  (h3 : 1 ≤ n0 → ∀ (i : Fin 128) (h : Fin 8) (e : Fin 64), X3 (ix2 i ⟨64 * h.val + e.val, by omega⟩) = tok W dil p ((n0 - 1) * 128 + i.val) h e)
  (h4 : ∀ (i : Fin R) (h : Fin 8) (e : Fin 64), X4 (ix2 i ⟨64 * h.val + e.val, by omega⟩) = tok W dil p (n0 * 128 + i.val) h e)
  (h5 : ∀ f h r j, X5 (ix4 f h r j) = table dilw f h r j)

include h0 h1 h2 h5 in
/-- The scores of a grid point. -/
theorem scr_eq (f blk : ℕ) (hb : 128 * blk + 128 ≤ R) (hf : f = if n0 + blk = 0 then 1 else 0) (h : Fin 8) (r : Fin 128) (j : Fin 256) :
    scr X0 X1 X2 X5 f blk h r j = Scale.L * rs Q K dil dilw p h (n0 + blk) r j := by
  unfold scr
  rw [mul_comm]
  refine congrArg (Scale.L * ·) ?_
  rw [h5]
  unfold table rs
  have hfv : ((Fin.ofNat 2 f).val = 0) ↔ 1 ≤ n0 + blk := by
    rw [hf]; split <;> simp <;> omega
  by_cases hok : band r j = 1#1 ∧ (1 ≤ n0 + blk ∨ 128 ≤ j.val)
  · rw [if_pos hok, if_pos ⟨hok.1, hok.2.imp hfv.mpr id⟩, sub_eq_add_neg, neg_mul_eq_neg_mul]
    refine congrArg (· + _) ?_
    rw [mul_comm _ c8, c8_eq, Scale.coe_mul_sum _ (by norm_num)]
    refine Finset.sum_congr rfl fun e _ => ?_
    rw [row_key dil p n0 K X1 X2 h1 h2 blk hb j hok.2, h0, c8_eq]
    have hm : (Fin.ofNat R (128 * blk + r.val)).val = 128 * blk + r.val := Nat.mod_eq_of_lt (by omega)
    rw [hm, show n0 * 128 + (128 * blk + r.val) = (n0 + blk) * 128 + r.val by omega]
    ac_rfl
  · rw [if_neg hok, if_neg fun hc => hok ⟨hc.1, hc.2.imp hfv.mp id⟩, EReal.add_bot]

include h0 h1 h2 h3 h4 h5 in
/-- The first result of a grid point. -/
theorem O_eq (f : ℕ) (hR : R % 128 = 0) (hf : f = if n0 = 0 then 1 else 0) (i : Fin R) (c : Fin 512) :
    O f X0 X1 X2 X3 X4 X5 (ix2 i c) = nums Q K W dil dilw (n0 * 128 + i.val) (512 * p + c.val) := by
  have hb : 128 * (i.val / 128) + 128 ≤ R := by omega
  have hs := scr_eq Q K dil dilw p n0 X0 X1 X2 X5 h0 h1 h2 h5 (if i.val < 128 then f else 0) (i.val / 128) hb
    (by rw [hf]; split <;> split <;> simp_all <;> omega)
  show num X0 X1 X2 X3 X4 X5 (if i.val < 128 then f else 0) (i.val / 128) ⟨i.val % 128, _⟩ c = _
  unfold num nums
  have e1 : (512 * p + c.val) / 512 = p := by omega
  have e2 : (n0 * 128 + i.val) / 128 = n0 + i.val / 128 := by omega
  have e3 : (Fin.ofNat 8 ((512 * p + c.val) / 64 % 8)) = (⟨c.val / 64, by omega⟩ : Fin 8) := Fin.ext (by simp [Fin.ofNat]; omega)
  have e4 : (Fin.ofNat 128 ((n0 * 128 + i.val) % 128)) = (⟨i.val % 128, Nat.mod_lt _ (by norm_num)⟩ : Fin 128) := Fin.ext (by simp [Fin.ofNat])
  have e5 : (Fin.ofNat 64 ((512 * p + c.val) % 64)) = (⟨c.val % 64, by omega⟩ : Fin 64) := Fin.ext (by simp [Fin.ofNat]; omega)
  rw [e1, e2, e3, e4, e5]
  unfold wgt wt
  refine Scale.row_values _ _ _ _ (hs _ _) fun j => ?_
  by_cases hok : 1 ≤ n0 + i.val / 128 ∨ 128 ≤ j.val
  · right
    rw [← row_key dil p n0 W X3 X4 h3 h4 (i.val / 128) hb j hok]
    exact congrArg (row X3 X4 _) (Fin.ext (by show c.val = 64 * (c.val / 64) + c.val % 64; omega))
  · left
    unfold rs
    exact if_neg fun hc => hok hc.2

include h0 h1 h2 h5 in
/-- The second result of a grid point. -/
theorem L_eq (f : ℕ) (hR : R % 128 = 0) (hf : f = if n0 = 0 then 1 else 0) (i : Fin R) (l : Fin 128) :
    L f X0 X1 X2 X5 (ix2 i l) = stats Q K dil dilw (n0 * 128 + i.val) (128 * p + l.val) := by
  have hb : 128 * (i.val / 128) + 128 ≤ R := by omega
  have hs := scr_eq Q K dil dilw p n0 X0 X1 X2 X5 h0 h1 h2 h5 (if i.val < 128 then f else 0) (i.val / 128) hb
    (by rw [hf]; split <;> split <;> simp_all <;> omega)
  show stat X0 X1 X2 X5 (if i.val < 128 then f else 0) (i.val / 128) ⟨i.val % 128, _⟩ l = _
  unfold stat stats
  have e0 : (128 * p + l.val) % 128 = l.val := by omega
  have e1 : (128 * p + l.val) / 128 = p := by omega
  have e2 : (n0 * 128 + i.val) / 128 = n0 + i.val / 128 := by omega
  have e4 : (Fin.ofNat 128 ((n0 * 128 + i.val) % 128)) = (⟨i.val % 128, Nat.mod_lt _ (by norm_num)⟩ : Fin 128) := Fin.ext (by simp [Fin.ofNat])
  rw [e0, e1, e2, e4]
  by_cases hl : l.val < 8
  · have e3 : (Fin.ofNat 8 l.val) = (⟨l.val, hl⟩ : Fin 8) := Fin.ext (Nat.mod_eq_of_lt hl)
    rw [dif_pos hl, if_pos hl, e3]
    exact Scale.row_top _ _ (hs _ _)
  · rw [dif_neg hl, if_neg hl]
    by_cases hl' : l.val < 16
    · have e3 : (Fin.ofNat 8 (l.val - 8)) = (⟨l.val - 8, by omega⟩ : Fin 8) := Fin.ext (Nat.mod_eq_of_lt (by omega))
      rw [dif_pos hl', if_pos hl', e3]
      exact Finset.sum_congr rfl fun j _ => Scale.row_weight _ _ (hs _ _) j
    · rw [dif_neg hl', if_neg hl']

end Point

end Cert.Band

end
-- ==== Proof.Arrays.lean ====
module

public import proofs.«01_k».proof.Proof.Pieces
public import proofs.«01_k».proof.Proof.Band
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ)

/-- The queries of a device. -/
abbrev Q (c : Dev nD) : Band.Tok := m ((c : Thread nD τ).loc main_arg0)

/-- The keys of a device. -/
abbrev K (c : Dev nD) : Band.Tok := m ((c : Thread nD τ).loc main_arg1)

/-- The values of a device. -/
abbrev W (c : Dev nD) : Band.Tok := m ((c : Thread nD τ).loc main_arg2)

/-! ## The operands that the host lays out -/

theorem q_apply (c : Dev nD) (g : Fin 1024) (x : Fin 8192) : (V m c main_v3 : Vec Ideal S1024x8192 .bf16) (ix2 g x)
    = Band.tok (Q m c) 16 (x.val / 512) g.val ⟨x.val / 64 % 8, by omega⟩ ⟨x.val % 64, by omega⟩ * Band.c8 := by
  unfold V
  simp only [hostOps0, hostOps0_1, hostOps0_2, hostOps0_3, hostOps0_4, List.flatten_cons, List.flatten_nil, List.cons_append, List.nil_append, List.append_nil]
  after_results
  simp only [StableHlo.TRef.ofBuf_toBuf, StableHlo.TRef.ofBuf, StableHlo.TRef.toBuf, cast_eq]
  pointwise
  exact congrArg (· * Band.c8) (Band.tok_eq _ _ _ _ _ _ _ _ rfl).symm

theorem k_apply (c : Dev nD) (g : Fin 1024) (x : Fin 8192) : (V m c main_v5 : Vec Ideal S1024x8192 .bf16) (ix2 g x)
    = Band.tok (K m c) 16 (x.val / 512) g.val ⟨x.val / 64 % 8, by omega⟩ ⟨x.val % 64, by omega⟩ := by
  unfold V
  simp only [hostOps0, hostOps0_1, hostOps0_2, hostOps0_3, hostOps0_4, List.flatten_cons, List.flatten_nil, List.cons_append, List.nil_append, List.append_nil]
  after_results
  simp only [StableHlo.TRef.ofBuf_toBuf, StableHlo.TRef.ofBuf, StableHlo.TRef.toBuf, cast_eq]
  pointwise
  exact (Band.tok_eq _ _ _ _ _ _ _ _ rfl).symm

theorem v_apply (c : Dev nD) (g : Fin 1024) (x : Fin 8192) : (V m c main_v7 : Vec Ideal S1024x8192 .bf16) (ix2 g x)
    = Band.tok (W m c) 16 (x.val / 512) g.val ⟨x.val / 64 % 8, by omega⟩ ⟨x.val % 64, by omega⟩ := by
  unfold V
  simp only [hostOps0, hostOps0_1, hostOps0_2, hostOps0_3, hostOps0_4, List.flatten_cons, List.flatten_nil, List.cons_append, List.nil_append, List.append_nil]
  after_results
  simp only [StableHlo.TRef.ofBuf_toBuf, StableHlo.TRef.ofBuf, StableHlo.TRef.toBuf, cast_eq]
  pointwise
  exact (Band.tok_eq _ _ _ _ _ _ _ _ rfl).symm

theorem b_apply (c : Dev nD) (f : Fin 2) (h : Fin 8) (r : Fin 128) (j : Fin 256) : (V m c main_v52 : Vec Ideal S2x8x128x256 .f32) (ix4 f h r j)
    = Band.table 16#32 f h r j := by
  unfold V
  simp only [hostOps0, hostOps0_1, hostOps0_2, hostOps0_3, hostOps0_4, List.flatten_cons, List.flatten_nil, List.cons_append, List.nil_append, List.append_nil]
  after_results
  simp only [StableHlo.TRef.ofBuf_toBuf, StableHlo.TRef.ofBuf, StableHlo.TRef.toBuf, cast_eq]
  pointwise
  unfold Band.table
  by_cases hf : f.val < 1
  · rw [dif_pos hf]
    refine (Band.select_prop _ _ _ _ ?_).trans (if_congr Iff.rfl rfl Band.neg_inf)
    exact ⟨fun hb => ⟨hb, Or.inl (by omega)⟩, fun hb => hb.1⟩
  · rw [dif_neg hf]
    refine (Band.select_prop _ _ _ _ ?_).trans (if_congr Iff.rfl rfl Band.neg_inf)
    rw [Band.and_iff, Band.late_iff]
    exact and_congr Iff.rfl ⟨Or.inr, fun hb => hb.resolve_left (by omega)⟩

/-! ## The blocks of a grid point -/

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, 0, 0, 0] ∧ win0_6.index t = ![0, t.val] ∧ win0_7.index t = ![0, t.val] ∧ t.val < 16 :=
  (by decide +kernel : ∀ t : Fin grid0.N, _)

theorem b0 (c : Dev nD) (t : Fin cfg0.N) (i : Fin 1024) (x : Fin 512) : (iblk m c 0 t : Vec Ideal S1024x512 .bf16) (ix2 i x)
    = (V m c main_v3 : Vec Ideal S1024x8192 .bf16) (ix2 i ⟨512 * t.val + x.val, by have := (idx t).2.2.2.2.2.2.2.2; omega⟩) := by
  blk_ext [iblk, idx t]

theorem b2 (c : Dev nD) (t : Fin cfg0.N) (i : Fin 1024) (x : Fin 512) : (iblk m c 2 t : Vec Ideal S1024x512 .bf16) (ix2 i x)
    = (V m c main_v5 : Vec Ideal S1024x8192 .bf16) (ix2 i ⟨512 * t.val + x.val, by have := (idx t).2.2.2.2.2.2.2.2; omega⟩) := by
  blk_ext [iblk, idx t]

theorem b4 (c : Dev nD) (t : Fin cfg0.N) (i : Fin 1024) (x : Fin 512) : (iblk m c 4 t : Vec Ideal S1024x512 .bf16) (ix2 i x)
    = (V m c main_v7 : Vec Ideal S1024x8192 .bf16) (ix2 i ⟨512 * t.val + x.val, by have := (idx t).2.2.2.2.2.2.2.2; omega⟩) := by
  blk_ext [iblk, idx t]

theorem b5 (c : Dev nD) (t : Fin cfg0.N) (f : Fin 2) (h : Fin 8) (r : Fin 128) (j : Fin 256) : (iblk m c 5 t : Vec Ideal S2x8x128x256 .f32) (ix4 f h r j)
    = (V m c main_v52 : Vec Ideal S2x8x128x256 .f32) (ix4 f h r j) := by
  blk_ext [iblk, idx t]

/-- An operand laid out by classes, read in the columns of a class. -/
theorem tok_cols (A : Band.Tok) (t g : ℕ) (h : Fin 8) (e : Fin 64) (k : Fin 8) (l : Fin 64) (hk : k.val = (512 * t + (64 * h.val + e.val)) / 64 % 8)
    (hl : l.val = (512 * t + (64 * h.val + e.val)) % 64) : Band.tok A 16 ((512 * t + (64 * h.val + e.val)) / 512) g k l = Band.tok A 16 t (0 * 128 + g) h e := by
  have e0 : (512 * t + (64 * h.val + e.val)) / 512 = t := by omega
  obtain rfl : k = h := Fin.ext (by omega)
  obtain rfl : l = e := Fin.ext (by omega)
  rw [e0, Nat.zero_mul, Nat.zero_add]

/-! ## The results -/

theorem final6 (c : Dev nD) : (dats m 0 c).arrAt 6 (cfgs 0).N = fun i => Band.nums (Q m c) (K m c) (W m c) 16 16#32 (i 0).val (i 1).val := by
  refine (dats m 0 c).arrAt_eq_of_covers 6 _ (by decide +kernel) fun t hf y => ?_
  blk_simp [idx t]
  rw [after0_6]
  unfold outsAt0
  dsimp only
  rw [Pieces.out6]
  obtain ⟨i, x, rfl⟩ : ∃ (i : Fin 1024) (x : Fin 512), y = ix2 i x := ⟨y 0, y 1, eq_ix2 y⟩
  refine (Band.O_eq (Q m c) (K m c) (W m c) 16 16#32 t.val 0 _ _ _ _ _ _ ?_ ?_ ?_ ?_ ?_ ?_ 1 (by norm_num) rfl i x).trans ?_
  · exact fun i h e => (b0 m c t i _).trans ((q_apply m c i _).trans (congrArg (· * Band.c8) (tok_cols _ _ _ _ _ _ _ rfl rfl)))
  · exact fun h => absurd h (by norm_num)
  · exact fun i h e => (b2 m c t i _).trans ((k_apply m c i _).trans (tok_cols _ _ _ _ _ _ _ rfl rfl))
  · exact fun h => absurd h (by norm_num)
  · exact fun i h e => (b4 m c t i _).trans ((v_apply m c i _).trans (tok_cols _ _ _ _ _ _ _ rfl rfl))
  · exact fun f h r j => (b5 m c t f h r j).trans (b_apply m c f h r j)
  · show Band.nums (Q m c) (K m c) (W m c) 16 16#32 (0 * 128 + i.val) (512 * t.val + x.val) = Band.nums (Q m c) (K m c) (W m c) 16 16#32 i.val (t.val * 512 + x.val)
    rw [Nat.zero_mul, Nat.zero_add, Nat.mul_comm]

theorem final7 (c : Dev nD) : (dats m 0 c).arrAt 7 (cfgs 0).N = fun i => Band.stats (Q m c) (K m c) 16 16#32 (i 0).val (i 1).val := by
  refine (dats m 0 c).arrAt_eq_of_covers 7 _ (by decide +kernel) fun t hf y => ?_
  blk_simp [idx t]
  rw [after0_7]
  unfold outsAt0
  dsimp only
  rw [Pieces.out7]
  obtain ⟨i, x, rfl⟩ : ∃ (i : Fin 1024) (x : Fin 128), y = ix2 i x := ⟨y 0, y 1, eq_ix2 y⟩
  refine (Band.L_eq (Q m c) (K m c) 16 16#32 t.val 0 _ _ _ _ ?_ ?_ ?_ ?_ 1 (by norm_num) rfl i x).trans ?_
  · exact fun i h e => (b0 m c t i _).trans ((q_apply m c i _).trans (congrArg (· * Band.c8) (tok_cols _ _ _ _ _ _ _ rfl rfl)))
  · exact fun h => absurd h (by norm_num)
  · exact fun i h e => (b2 m c t i _).trans ((k_apply m c i _).trans (tok_cols _ _ _ _ _ _ _ rfl rfl))
  · exact fun f h r j => (b5 m c t f h r j).trans (b_apply m c f h r j)
  · show Band.stats (Q m c) (K m c) 16 16#32 (0 * 128 + i.val) (128 * t.val + x.val) = Band.stats (Q m c) (K m c) 16 16#32 i.val (t.val * 128 + x.val)
    rw [Nat.zero_mul, Nat.zero_add, Nat.mul_comm]

end Cert.KernelIdeal.Arrays

end
-- ==== Proof.BandRef.lean ====
module

public import proofs.«01_k».proof.Proof.Band

@[expose] public section

set_option maxRecDepth 16384

noncomputable section

namespace Cert.Band

open Idealize.ShloMosaic

/-- The block of keys before the queries' block counts only when there is one. -/
theorem first_iff (N : ℕ) (n : Fin N) (hN : N ≤ 1024) : IntOp.cmpi .sgt (BitVec.ofNat 32 n.val) 0#32 = 1#1 ↔ 1 ≤ n.val := by
  have h : ∀ n : Fin 1024, IntOp.cmpi .sgt (BitVec.ofNat 32 n.val) 0#32 = 1#1 ↔ 1 ≤ n.val := by decide +kernel
  exact h ⟨n.val, lt_of_lt_of_le n.isLt hN⟩

/-- The keys a block sees, from the padded and joined arrays. -/
theorem key_cases (k : Tok) (dil p n N : ℕ) (hn : n < N) (j : Fin 256) (h : Fin 8) (e : Fin 64) (z : EReal) (hz : z = 0)
    (a : j.val < 128 → (1 ≤ n ∧ n - 1 < N) ∧ j.val < 128 → ((n - 1) * 128 + j.val) * dil + p < 16384)
    (b : ¬ j.val < 128 → (n * 128 + (j.val - 128)) * dil + p < 16384) :
    (if h1 : j.val < 128 then if h2 : (1 ≤ n ∧ n - 1 < N) ∧ j.val < 128 then k (ix4 0 ⟨((n - 1) * 128 + j.val) * dil + p, a h1 h2⟩ h e) else z
      else k (ix4 0 ⟨(n * 128 + (j.val - 128)) * dil + p, b h1⟩ h e)) = key k dil p n j h e := by
  unfold key
  split_ifs with h1 h2 h3 h3
  · exact (tok_eq _ _ _ _ _ _ _ _ rfl).symm
  · omega
  · omega
  · exact hz
  · exact (tok_eq _ _ _ _ _ _ _ _ rfl).symm

variable (Q K W : Tok) (dil : ℕ) (dilw : BitVec 32) (g x : ℕ)

/-- The weighted sum of the values, its indices bounded. -/
theorem nums_eq (h : Fin 8) (hh : h.val = x / 64 % 8) (r : Fin 128) (hr : r.val = g % 128) (e : Fin 64) (he : e.val = x % 64) :
    nums Q K W dil dilw g x = ∑ j, wt Q K dil dilw (x / 512) h (g / 128) r j * key W dil (x / 512) (g / 128) j h e := by
  unfold nums
  have e1 : Fin.ofNat 8 (x / 64 % 8) = h := Fin.ext (by simp [Fin.ofNat, hh])
  have e2 : Fin.ofNat 128 (g % 128) = r := Fin.ext (by simp [Fin.ofNat, hr])
  have e3 : Fin.ofNat 64 (x % 64) = e := Fin.ext (by simp [Fin.ofNat, he])
  rw [e1, e2, e3]

/-- The largest score. -/
theorem stats_top (h : Fin 8) (hh : h.val = x % 128) (r : Fin 128) (hr : r.val = g % 128) :
    stats Q K dil dilw g x = Finset.univ.sup (rs Q K dil dilw (x / 128) h (g / 128) r) * Scale.L := by
  unfold stats
  have e1 : Fin.ofNat 8 (x % 128) = h := Fin.ext (by rw [← hh]; exact Nat.mod_eq_of_lt h.isLt)
  have e2 : Fin.ofNat 128 (g % 128) = r := Fin.ext (by simp [Fin.ofNat, hr])
  rw [if_pos (by omega), e1, e2]

/-- The sum of the weights. -/
theorem stats_sum (h : Fin 8) (hx : ¬ x % 128 < 8) (hh : h.val = x % 128 - 8) (r : Fin 128) (hr : r.val = g % 128) :
    stats Q K dil dilw g x = ∑ j, wt Q K dil dilw (x / 128) h (g / 128) r j := by
  unfold stats
  have e1 : Fin.ofNat 8 (x % 128 - 8) = h := Fin.ext (by rw [← hh]; exact Nat.mod_eq_of_lt h.isLt)
  have e2 : Fin.ofNat 128 (g % 128) = r := Fin.ext (by simp [Fin.ofNat, hr])
  rw [if_neg hx, if_pos (by omega), e1, e2]

/-- The filling. -/
theorem stats_zero (hx : ¬ x % 128 < 8) (hh : ¬ x % 128 - 8 < 8) : stats Q K dil dilw g x = 0 := by
  unfold stats
  rw [if_neg hx, if_neg (by omega)]

/-- The logarithm of the literal two. -/
theorem log_two : Ideal.log (Ideal.ofBits FTy.f32 1073741824#32) = ((Real.log 2 : ℝ) : EReal) := by
  rw [show Ideal.ofBits FTy.f32 1073741824#32 = ((2 : ℝ) : EReal) by simp [Ideal.ofBits, Ideal.ieee, -EReal.coe_mul]; norm_num]
  show (if (2 : ℝ) ≤ 0 then (⊥ : EReal) else ((Real.log 2 : ℝ) : EReal)) = _
  rw [if_neg (by norm_num)]

/-- Dividing by the logarithm of two. -/
theorem div_log (s z : EReal) (hz : z = Ideal.ofBits FTy.f32 1073741824#32) : Ideal.div s (Ideal.log z) = s * Scale.L := by
  rw [hz, log_two, Ideal.div_coe Scale.log2_pos.ne']
  unfold Scale.L
  rw [one_div]

end Cert.Band

end
-- ==== Proof.RefRead.lean ====
module

public import proofs.«01_k».proof.Proof.Gen.ReferenceIdeal.Read
public import Idealize.ShloMosaic.Lib.Pointwise
public import proofs.«01_k».proof.Proof.BandRef

@[expose] public section

set_option maxRecDepth 16384

noncomputable section

namespace Cert.ReferenceIdeal.Arrays

open Cert.ReferenceIdeal Cert.ReferenceIdeal.Gen Cert.ReferenceIdeal.Read Idealize.ShloMosaic Idealize.ShloMosaic.TcCoe Idealize.SL.Sem

theorem pad_zero : val_main_call0_v0 (F := Ideal) (Shape.Idx.first h_S_) = (0 : EReal) := by
  show ((_ : ℝ) : EReal) = 0
  simp [val_main_c_2, constantI]

theorem pad_zero1 : val_main_call1_v0 (F := Ideal) (Shape.Idx.first h_S_) = (0 : EReal) := by
  show ((_ : ℝ) : EReal) = 0
  simp [val_main_c_3, constantI]

theorem r_q (q : Band.Tok) (p : Fin 16) (h : Fin 8) (n : Fin 8) (r : Fin 128) (e : Fin 64) :
    val_main_v16 (F := Ideal) q (ix5 p h n r e) = Band.tok q 16 p.val (n.val * 128 + r.val) h e := by
  pointwise [val_main_v16, val_main_v15, val_main_v14, val_main_v11]
  exact (Band.tok_eq _ _ _ _ _ _ _ _ rfl).symm

theorem r_k (k : Band.Tok) (p : Fin 16) (h : Fin 8) (n : Fin 8) (j : Fin 256) (e : Fin 64) :
    val_main_v22 (F := Ideal) k (ix5 p h n j e) = Band.key k 16 p.val n.val j h e := by
  pointwise [val_main_v22, val_main_v21, val_main_v20, val_main_v19, val_main_v18, val_main_v17, val_main_v12]
  exact Band.key_cases k 16 p.val n.val 8 n.isLt j h e _ pad_zero _ _

theorem r_v (k : Band.Tok) (p : Fin 16) (h : Fin 8) (n : Fin 8) (j : Fin 256) (e : Fin 64) :
    val_main_v28 (F := Ideal) k (ix5 p h n j e) = Band.key k 16 p.val n.val j h e := by
  pointwise [val_main_v28, val_main_v27, val_main_v26, val_main_v25, val_main_v24, val_main_v23, val_main_v13]
  exact Band.key_cases k 16 p.val n.val 8 n.isLt j h e _ pad_zero1 _ _

theorem r_s (q k : Band.Tok) (p : Fin 16) (h : Fin 8) (n : Fin 8) (r : Fin 128) (j : Fin 256) :
    val_main_v71 (F := Ideal) q k (ix5 p h n r j) = Band.rs q k 16 16#32 p.val h n.val r j := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v0, val_main_v1, val_main_v2, val_main_v3, val_main_v4, val_main_v5, val_main_v6, val_main_v7, val_main_v8, val_main_v9, val_main_v10, val_main_call2_v1, val_main_call2_v2, val_main_call2_v0, val_main_cst_11, val_main_c_10, val_main_c_9, val_main_c_8, val_main_c_7, val_main_c_6, val_main_c_5, val_main_cst_4, val_main_c, val_main_cst, val_main_cst_0, val_main_cst_1]
  unfold Band.rs
  refine (Band.select_prop _ _ _ _ ?_).trans (if_congr Iff.rfl ?_ Band.neg_inf)
  · rw [Band.and_iff, Band.or_iff, Band.late_iff, Band.first_iff 8 _ (by norm_num)]
    exact Iff.rfl
  · refine congrArg (fun s => s * Band.c8 - Band.slope h * Band.dist 16#32 r j) (Finset.sum_congr rfl fun x _ => ?_)
    rw [r_q, r_k]

theorem r_m (q k : Band.Tok) (p : Fin 16) (h : Fin 8) (n : Fin 8) (r : Fin 128) :
    val_main_v72 (F := Ideal) q k (ix4 p h n r) = Finset.univ.sup (Band.rs q k 16 16#32 p.val h n.val r) := by
  pointwise [val_main_v72]
  rw [show val_main_cst_12 (F := Ideal) (Shape.Idx.first h_S_) = ⊥ from Band.neg_inf]
  exact congrArg (Finset.univ.sup) (funext fun j => r_s q k p h n r j)

theorem r_w (q k : Band.Tok) (p : Fin 16) (h : Fin 8) (n : Fin 8) (r : Fin 128) (j : Fin 256) :
    Ideal.exp (val_main_v71 (F := Ideal) q k (ix5 p h n r j) - val_main_v72 (F := Ideal) q k (ix4 p h n r)) = Band.wt q k 16 16#32 p.val h n.val r j := by
  rw [r_s, r_m]; rfl

theorem r_d (q k : Band.Tok) (p : Fin 16) (h : Fin 8) (n : Fin 8) (r : Fin 128) :
    val_main_v77 (F := Ideal) q k (ix4 p h n r) = ∑ j, Band.wt q k 16 16#32 p.val h n.val r j := by
  pointwise [val_main_v77, val_main_v73, val_main_v74, val_main_v75, val_main_v76]
  rw [show val_main_cst_13 (F := Ideal) (Shape.Idx.first h_S_) = 0 from Band.zero_bits, zero_add]
  exact Finset.sum_congr rfl fun j _ => r_w q k p h n r j

set_option maxHeartbeats 1600000 in
/-- The first result of the reference. -/
theorem r_n (q k v : Band.Tok) (g : Fin 1024) (x : Fin 8192) :
    val_main_v94 (F := Ideal) q k v (ix2 g x) = Band.nums q k v 16 16#32 g.val x.val := by
  pointwise [val_main_v94, val_main_v93, val_main_v81, val_main_v80, val_main_v79, val_main_v78, val_main_v73, val_main_v74, val_main_v75, val_main_v76]
  refine Eq.trans ?_ (Band.nums_eq q k v 16 16#32 g.val x.val ⟨x.val / 64 % 8, by omega⟩ rfl ⟨g.val % 128, by omega⟩ rfl ⟨x.val % 64, by omega⟩ rfl).symm
  refine Finset.sum_congr rfl fun j _ => ?_
  have h1 := r_w q k ⟨x.val / 512, by omega⟩ ⟨x.val / 64 % 8, by omega⟩ ⟨g.val / 128, by omega⟩ ⟨g.val % 128, by omega⟩ j
  have h2 := r_v v ⟨x.val / 512, by omega⟩ ⟨x.val / 64 % 8, by omega⟩ ⟨g.val / 128, by omega⟩ j ⟨x.val % 64, by omega⟩
  dsimp only at h1 h2
  exact congrArg₂ (· * ·) h1 h2

/-- The second result of the reference. -/
theorem r_l (q k : Band.Tok) (g : Fin 1024) (x : Fin 2048) :
    val_main_v95 (F := Ideal) q k (ix2 g x) = Band.stats q k 16 16#32 g.val x.val := by
  pointwise [val_main_v95, val_main_v92, val_main_v91, val_main_v90, val_main_v89, val_main_v88, val_main_v87, val_main_v86, val_main_v85, val_main_v84, val_main_v83, val_main_v82]
  have e3 : (g.val * 16 + x.val / 128) % 16 = x.val / 128 := by omega
  by_cases h1 : x.val % 128 < 8
  · refine (dif_pos h1).trans ((Band.div_log _ _ rfl).trans ?_)
    refine Eq.trans ?_ (Band.stats_top q k 16 16#32 g.val x.val ⟨x.val % 128, h1⟩ rfl ⟨g.val % 128, by omega⟩ rfl).symm
    rw [r_m]
    simp only [e3]
  · refine (dif_neg h1).trans ?_
    by_cases h2 : x.val % 128 - 8 < 8
    · refine (dif_pos h2).trans ?_
      refine Eq.trans ?_ (Band.stats_sum q k 16 16#32 g.val x.val ⟨x.val % 128 - 8, h2⟩ h1 rfl ⟨g.val % 128, by omega⟩ rfl).symm
      rw [r_d]
      simp only [e3]
    · refine (dif_neg h2).trans ?_
      exact Band.zero_bits.trans (Band.stats_zero q k 16 16#32 g.val x.val h1 h2).symm

end Cert.ReferenceIdeal.Arrays

end
-- ==== Proof.Slot.lean ====
module

public import proofs.«01_k».proof.Proof.Gen.FfnIdeal.Value
public import Idealize.ShloMosaic.Lib.Pointwise
public import Idealize.ShloMosaic.Lib.Pipeline.ValueKit
public import Idealize.ShloMosaic.Lib.Writes

@[expose] public section

set_option maxRecDepth 16384
noncomputable section

namespace Cert.FfnIdeal.Slot

open Cert.FfnIdeal Idealize.ShloMosaic Idealize.SL.Sem

/-- Rows `o`, `o + 1`, … of a tile `U` with the eight carried rows `C` before it. -/
def slot {w n : ℕ} (o : ℕ) (ho : o + n ≤ 520) (U : Vec Ideal ⟨2, ![512, w]⟩ .f32) (C : Vec Ideal ⟨2, ![8, w]⟩ .f32) : Vec Ideal ⟨2, ![n, w]⟩ .f32 :=
  fun x => if h : o + (x 0).val < 8 then C (ix2 ⟨o + (x 0).val, h⟩ (x 1)) else U (ix2 ⟨o + (x 0).val - 8, by have := (x 0).isLt; change (x 0).val < n at this; omega⟩ (x 1))

variable {κ : Kind} {sp : Space} (v : View sig κ sp S4x520x512 .f32) (s w n o : ℕ)
  (hs : ∀ a, (![s, 0, 0] : Fin 3 → ℕ) a + (![1, 520, 512] : Fin 3 → ℕ) a ≤ S4x520x512.size a)
  (h8 : ∀ a, (![8, 0] : Fin 2 → ℕ) a + (![512, w] : Fin 2 → ℕ) a ≤ S520x512.size a)
  (h0 : ∀ a, (![0, 0] : Fin 2 → ℕ) a + (![8, w] : Fin 2 → ℕ) a ≤ S520x512.size a)
  (hn : ∀ a, (![o, 0] : Fin 2 → ℕ) a + (![n, w] : Fin 2 → ℕ) a ≤ S520x512.size a)
  (U : Vec Ideal ⟨2, ![512, w]⟩ .f32) (C : Vec Ideal ⟨2, ![8, w]⟩ .f32) (L : List (View.Piece (Elt Ideal) S4x520x512 .f32))
  (a1 b1 c1) (a2 b2 c2 d2 e2 f2) (g1 g2 g3 g4 g5)

/-- A load from a slot of the scratch after the tile and the carried rows have been stored into it. -/
theorem slot_read_within :
    LoadRect.valAlong (lr := (Rect.unit (s := S520x512) ![o, 0] ![n, w] hn).toLoadRect) g1
      (v.readCov
        (⟨(Rect.unit (s := S4x520x512) ![s, 0, 0] ![1, 520, 512] hs).within ((Rect.unit (s := S520x512) ![8, 0] ![512, w] h8).consLift ![1, 520, 512] a1 b1) c1,
            Rect.payAlong (r := Rect.unit (s := S520x512) ![8, 0] ![512, w] h8) g2 U⟩ ::
          ⟨(Rect.unit (s := S4x520x512) ![s, 0, 0] ![1, 520, 512] hs).within ((Rect.unit (s := S520x512) ![0, 0] ![8, w] h0).consLift ![1, 520, 512] a2 b2) c2,
            Rect.payAlong (r := Rect.unit (s := S520x512) ![0, 0] ![8, w] h0) g3 C⟩ :: L)
        ((Rect.unit (s := S4x520x512) ![s, 0, 0] ![1, 520, 512] hs).withinL
          ((Rect.unit (s := S520x512) ![o, 0] ![n, w] hn).toLoadRect.consLift ![1, 520, 512] d2 e2) f2))
    = slot o (hn 0) U C := by
  funext x
  obtain ⟨i, c, rfl⟩ : ∃ (i : Fin n) (c : Fin w), x = ix2 i c := ⟨x 0, x 1, eq_ix2 x⟩
  unfold View.readCov
  show View.readAt _ _ _ _ (Shape.reshapeEquiv g1 (ix2 i c)) = _
  rw [View.readAt_apply]
  set y := ((Rect.unit (s := S4x520x512) ![s, 0, 0] ![1, 520, 512] hs).withinL
          ((Rect.unit (s := S520x512) ![o, 0] ![n, w] hn).toLoadRect.consLift ![1, 520, 512] d2 e2) f2).idx (Shape.reshapeEquiv g1 (ix2 i c)) with hy
  have ez : ∀ a, (y a).val = (![s, o + i.val, c.val] : Fin 3 → ℕ) a := by
    intro a
    rw [hy]
    have e : Shape.reshapeEquiv g1 (ix2 i c) = (Fin.cons ⟨0, Nat.one_pos⟩ (ix2 i c) : (⟨3, Matrix.vecCons 1 ![n, w]⟩ : Shape).Idx) := Shape.reshapeEquiv_cons_one _ _
    rw [LoadRect.idx_apply]
    fin_cases a
    · show s + 0 + 1 * _ = _
      rw [e]; rfl
    · show 0 + o + 1 * _ = _
      rw [e]; show 0 + o + 1 * i.val = o + i.val; omega
    · show 0 + 0 + 1 * _ = _
      rw [e]; show 0 + 0 + 1 * c.val = c.val; omega
  have y0 : (y 0).val = s := ez 0
  have y1 : (y 1).val = o + i.val := ez 1
  have y2 : (y 2).val = c.val := ez 2
  have hon : o + n ≤ 520 := hn 0
  have hw : 0 + w ≤ 512 := hn 1
  unfold slot
  by_cases h : o + i.val < 8
  · refine Eq.trans ?_ (dif_pos h).symm
    refine (View.read_writes_cons_miss_of_axis v _ _ _ y (1 : Fin 3) 8 512 rfl rfl rfl (Or.inl (by rw [y1]; exact h))).trans ?_
    refine (View.read_writes_cons_hit_of_coords v _ _ _ _ (ix3 (0 : Fin 1) (⟨o + i.val, h⟩ : Fin 8) c) y ?_).trans ?_
    · intro a
      fin_cases a
      · exact y0.trans (by show s = s + 0 + 1 * 0; omega)
      · exact y1.trans (by first | (show o + i.val = 0 + 0 + 1 * (o + i.val); omega) | (show o + i.val = 0 + 8 + 1 * (o + i.val - 8); omega))
      · exact y2.trans (by show c.val = 0 + 0 + 1 * c.val; omega)
    · refine Rect.payAlong_consLift (Rect.unit (s := S520x512) ![0, 0] ![8, w] h0) ![1, 520, 512] a2 b2 C g3 _ (ix2 (⟨o + i.val, h⟩ : Fin 8) c) ?_
      intro a
      fin_cases a <;> rfl
  · refine Eq.trans ?_ (dif_neg h).symm
    refine (View.read_writes_cons_hit_of_coords v _ _ _ _ (ix3 (0 : Fin 1) (⟨o + i.val - 8, by omega⟩ : Fin 512) c) y ?_).trans ?_
    · intro a
      fin_cases a
      · exact y0.trans (by show s = s + 0 + 1 * 0; omega)
      · exact y1.trans (by first | (show o + i.val = 0 + 0 + 1 * (o + i.val); omega) | (show o + i.val = 0 + 8 + 1 * (o + i.val - 8); omega))
      · exact y2.trans (by show c.val = 0 + 0 + 1 * c.val; omega)
    · refine Rect.payAlong_consLift (Rect.unit (s := S520x512) ![8, 0] ![512, w] h8) ![1, 520, 512] a1 b1 U g2 _ (ix2 (⟨o + i.val - 8, by omega⟩ : Fin 512) c) ?_
      intro a
      fin_cases a <;> rfl

/-- A load from a slot of the scratch after the tile and the carried rows have been stored into it, its boxes told from the squeezed slot. -/
theorem slot_read :
    LoadRect.valAlong (lr := (Rect.unit (s := S520x512) ![o, 0] ![n, w] hn).toLoadRect) (LR := (Rect.unit (s := S520x512) ![o, 0] ![n, w] hn).toLoadRect.consLift ![1, 520, 512] d2 e2) g1
      (v.readCov
        (⟨(Rect.unit (s := S4x520x512) ![s, 0, 0] ![1, 520, 512] hs).within ((Rect.unit (s := S520x512) ![8, 0] ![512, w] h8).consLift ![1, 520, 512] a1 b1) c1,
            Rect.payAlong (r := Rect.unit (s := S520x512) ![8, 0] ![512, w] h8) (R := (Rect.unit (s := S520x512) ![8, 0] ![512, w] h8).consLift ![1, 520, 512] a1 b1) g2 U⟩ ::
          ⟨(Rect.unit (s := S4x520x512) ![s, 0, 0] ![1, 520, 512] hs).within ((Rect.unit (s := S520x512) ![0, 0] ![8, w] h0).consLift ![1, 520, 512] a2 b2) c2,
            Rect.payAlong (r := Rect.unit (s := S520x512) ![0, 0] ![8, w] h0) (R := (Rect.unit (s := S520x512) ![0, 0] ![8, w] h0).consLift ![1, 520, 512] a2 b2) g3 C⟩ :: L)
        ((Rect.unit (s := S4x520x512) ![s, 0, 0] ![1, 520, 512] hs).withinL
          ((Rect.unit (s := S520x512) ![o, 0] ![n, w] hn).toLoadRect.consLift ![1, 520, 512] d2 e2) f2))
    = slot o (hn 0) U C :=
  slot_read_within v s w n o hs h8 h0 hn U C L a1 b1 c1 a2 b2 c2 d2 e2 f2 g1 g2 g3

end Cert.FfnIdeal.Slot

end
-- ==== Proof.Tile.lean ====
module

public import proofs.«01_k».proof.Proof.Slot

/-! # One tile of columns of the feed-forward kernel, entry by entry -/

@[expose] public section

set_option maxRecDepth 16384
set_option maxHeartbeats 1000000
noncomputable section

namespace Cert.FfnIdeal.Tile

open Cert.FfnIdeal Cert.FfnIdeal.Gen Cert.FfnIdeal.Slot Idealize.ShloMosaic Idealize.ShloMosaic.TcCoe Idealize.SL.Sem

variable (XN : Vec Ideal S512x1024 .bf16) (x6 : Vec Ideal S1024x5632 .bf16) (x7 : Vec Ideal S3x5632 .f32) (C : Vec Ideal S8x5632 .f32)

/-- The widened rows of one grid point. -/
def UPB (r : Fin 512) (c : Fin 5632) : EReal := ∑ k : Fin 1024, XN (ix2 r k) * x6 (ix2 k c)

/-- The widened rows with the eight carried rows before them. -/
def EXT (p : ℕ) (hp : p < 520) (c : Fin 5632) : EReal :=
  if h : p < 8 then C (ix2 ⟨p, h⟩ c) else UPB XN x6 ⟨p - 8, by omega⟩ c

/-- The causal convolution of width three down the rows. -/
def CV (r : Fin 512) (c : Fin 5632) : EReal :=
  x7 (ix2 (0 : Fin 3) c) * EXT XN x6 C (6 + r.val) (by omega) c + x7 (ix2 (1 : Fin 3) c) * EXT XN x6 C (7 + r.val) (by omega) c
    + x7 (ix2 (2 : Fin 3) c) * UPB XN x6 r c

/-- The gated entries of one grid point. -/
def HID (r : Fin 512) (c : Fin 2816) : EReal :=
  CV XN x6 x7 C r ⟨c.val, by omega⟩ * Ideal.div 1 (1 + Ideal.exp (0 - CV XN x6 x7 C r ⟨c.val, by omega⟩)) * CV XN x6 x7 C r ⟨2816 + c.val, by omega⟩

/-- The gated entries as an array. -/
def HIDv : Vec Ideal S512x2816 .bf16 := fun y => HID XN x6 x7 C (y 0) (y 1)

/-- The rows carried on as an array: the last eight of the widened rows. -/
def CARv : Vec Ideal S8x5632 .f32 := fun y => UPB XN x6 ⟨504 + (y 0).val, by have := (y 0).isLt; change (y 0).val < 8 at this; omega⟩ (y 1)

variable (lo : ℕ)

theorem up512 (h : ∀ a, (![0, lo] : Fin 2 → ℕ) a + (![1024, 512] : Fin 2 → ℕ) a ≤ S1024x5632.size a) (r : Fin 512) (c : Fin 512) :
    k0_pay5 (F := Ideal) XN (View.ld x6 (Rect.unit (s := S1024x5632) ![0, lo] ![1024, 512] h)) (ix2 r c)
      = UPB XN x6 r ⟨lo + c.val, by have := h 1; change lo + 512 ≤ 5632 at this; omega⟩ := by
  unfold UPB
  pointwise [k0_pay5]

theorem up256 (h : ∀ a, (![0, lo] : Fin 2 → ℕ) a + (![1024, 256] : Fin 2 → ℕ) a ≤ S1024x5632.size a) (r : Fin 512) (c : Fin 256) :
    k0_pay64 (F := Ideal) XN (View.ld x6 (Rect.unit (s := S1024x5632) ![0, lo] ![1024, 256] h)) (ix2 r c)
      = UPB XN x6 r ⟨lo + c.val, by have := h 1; change lo + 256 ≤ 5632 at this; omega⟩ := by
  unfold UPB
  pointwise [k0_pay64]

/-- Tile and carried rows, read `o` rows from the top of the slot. -/
theorem ext512 (n o : ℕ) (ho : o + n ≤ 520) (h : ∀ a, (![0, lo] : Fin 2 → ℕ) a + (![1024, 512] : Fin 2 → ℕ) a ≤ S1024x5632.size a)
    (h' : ∀ a, (![0, lo] : Fin 2 → ℕ) a + (![8, 512] : Fin 2 → ℕ) a ≤ S8x5632.size a) (r : Fin n) (c : Fin 512) :
    slot o ho (k0_pay7 (F := Ideal) XN (View.ld x6 (Rect.unit (s := S1024x5632) ![0, lo] ![1024, 512] h)))
        (k0_pay6 (F := Ideal) (View.ld C (Rect.unit (s := S8x5632) ![0, lo] ![8, 512] h'))) (ix2 r c)
      = EXT XN x6 C (o + r.val) (by omega) ⟨lo + c.val, by have := h 1; change lo + 512 ≤ 5632 at this; omega⟩ := by
  unfold slot EXT
  by_cases hp : o + r.val < 8
  · refine (dif_pos hp).trans (Eq.trans ?_ (dif_pos hp).symm)
    show k0_pay6 (F := Ideal) _ (ix2 (⟨o + r.val, hp⟩ : Fin 8) c) = _
    pointwise [k0_pay6]
  · refine (dif_neg hp).trans (Eq.trans ?_ (dif_neg hp).symm)
    exact Eq.trans (by pointwise [k0_pay7]) (up512 XN x6 lo h ⟨o + r.val - 8, by omega⟩ c)

/-- Tile and carried rows, read `o` rows from the top of the slot. -/
theorem ext256 (n o : ℕ) (ho : o + n ≤ 520) (h : ∀ a, (![0, lo] : Fin 2 → ℕ) a + (![1024, 256] : Fin 2 → ℕ) a ≤ S1024x5632.size a)
    (h' : ∀ a, (![0, lo] : Fin 2 → ℕ) a + (![8, 256] : Fin 2 → ℕ) a ≤ S8x5632.size a) (r : Fin n) (c : Fin 256) :
    slot o ho (k0_pay66 (F := Ideal) XN (View.ld x6 (Rect.unit (s := S1024x5632) ![0, lo] ![1024, 256] h)))
        (k0_pay65 (F := Ideal) (View.ld C (Rect.unit (s := S8x5632) ![0, lo] ![8, 256] h'))) (ix2 r c)
      = EXT XN x6 C (o + r.val) (by omega) ⟨lo + c.val, by have := h 1; change lo + 256 ≤ 5632 at this; omega⟩ := by
  unfold slot EXT
  by_cases hp : o + r.val < 8
  · refine (dif_pos hp).trans (Eq.trans ?_ (dif_pos hp).symm)
    show k0_pay65 (F := Ideal) _ (ix2 (⟨o + r.val, hp⟩ : Fin 8) c) = _
    pointwise [k0_pay65]
  · refine (dif_neg hp).trans (Eq.trans ?_ (dif_neg hp).symm)
    exact Eq.trans (by pointwise [k0_pay66]) (up256 XN x6 lo h ⟨o + r.val - 8, by omega⟩ c)

theorem gate512 (U U' S6 S7 S6' S7' : Vec Ideal ⟨2, ![512, 512]⟩ .f32) (w w' : Vec Ideal ⟨2, ![3, 512]⟩ .f32) (r : Fin 512) (c : Fin 512) :
    k0_pay16 (F := Ideal) (k0_pay11 (F := Ideal) U w (k0_pay9 (F := Ideal) w S6) (k0_pay10 (F := Ideal) w) S7) U' w' S6' S7' (ix2 r c)
      = (w (ix2 (0 : Fin 3) c) * S6 (ix2 r c) + w (ix2 (1 : Fin 3) c) * S7 (ix2 r c) + w (ix2 (2 : Fin 3) c) * U (ix2 r c))
        * Ideal.div 1 (1 + Ideal.exp (0 - (w (ix2 (0 : Fin 3) c) * S6 (ix2 r c) + w (ix2 (1 : Fin 3) c) * S7 (ix2 r c) + w (ix2 (2 : Fin 3) c) * U (ix2 r c))))
        * (w' (ix2 (0 : Fin 3) c) * S6' (ix2 r c) + w' (ix2 (1 : Fin 3) c) * S7' (ix2 r c) + w' (ix2 (2 : Fin 3) c) * U' (ix2 r c)) := by
  pointwise [k0_pay9, k0_pay10, k0_pay11, k0_pay16, k0_pay68, k0_pay69, k0_pay74]

/-- One tile of the gated entries. -/
theorem hid512 (hi : ℕ) (hh : hi = 2816 + lo)
    (h6 : ∀ a, (![0, lo] : Fin 2 → ℕ) a + (![1024, 512] : Fin 2 → ℕ) a ≤ S1024x5632.size a) (h6x : ∀ a, (![0, hi] : Fin 2 → ℕ) a + (![1024, 512] : Fin 2 → ℕ) a ≤ S1024x5632.size a)
    (hc : ∀ a, (![0, lo] : Fin 2 → ℕ) a + (![8, 512] : Fin 2 → ℕ) a ≤ S8x5632.size a) (hcx : ∀ a, (![0, hi] : Fin 2 → ℕ) a + (![8, 512] : Fin 2 → ℕ) a ≤ S8x5632.size a)
    (h7 : ∀ a, (![0, lo] : Fin 2 → ℕ) a + (![3, 512] : Fin 2 → ℕ) a ≤ S3x5632.size a) (h7x : ∀ a, (![0, hi] : Fin 2 → ℕ) a + (![3, 512] : Fin 2 → ℕ) a ≤ S3x5632.size a)
    (hR : ∀ a, (![0, lo] : Fin 2 → ℕ) a + (![512, 512] : Fin 2 → ℕ) a ≤ S512x2816.size a) (ho6 : 6 + 512 ≤ 520) (ho7 : 7 + 512 ≤ 520)
    (x : (⟨2, ![512, 512]⟩ : Shape).Idx) :
    k0_pay16 (F := Ideal) (k0_pay11 (F := Ideal) (k0_pay5 (F := Ideal) XN (View.ld x6 (Rect.unit (s := S1024x5632) ![0, lo] ![1024, 512] h6))) (View.ld x7 (Rect.unit (s := S3x5632) ![0, lo] ![3, 512] h7)) (k0_pay9 (F := Ideal) (View.ld x7 (Rect.unit (s := S3x5632) ![0, lo] ![3, 512] h7)) (slot 6 ho6 (k0_pay7 (F := Ideal) XN (View.ld x6 (Rect.unit (s := S1024x5632) ![0, lo] ![1024, 512] h6))) (k0_pay6 (F := Ideal) (View.ld C (Rect.unit (s := S8x5632) ![0, lo] ![8, 512] hc))))) (k0_pay10 (F := Ideal) (View.ld x7 (Rect.unit (s := S3x5632) ![0, lo] ![3, 512] h7))) (slot 7 ho7 (k0_pay7 (F := Ideal) XN (View.ld x6 (Rect.unit (s := S1024x5632) ![0, lo] ![1024, 512] h6))) (k0_pay6 (F := Ideal) (View.ld C (Rect.unit (s := S8x5632) ![0, lo] ![8, 512] hc))))) (k0_pay5 (F := Ideal) XN (View.ld x6 (Rect.unit (s := S1024x5632) ![0, hi] ![1024, 512] h6x))) (View.ld x7 (Rect.unit (s := S3x5632) ![0, hi] ![3, 512] h7x)) (slot 6 ho6 (k0_pay7 (F := Ideal) XN (View.ld x6 (Rect.unit (s := S1024x5632) ![0, hi] ![1024, 512] h6x))) (k0_pay6 (F := Ideal) (View.ld C (Rect.unit (s := S8x5632) ![0, hi] ![8, 512] hcx)))) (slot 7 ho7 (k0_pay7 (F := Ideal) XN (View.ld x6 (Rect.unit (s := S1024x5632) ![0, hi] ![1024, 512] h6x))) (k0_pay6 (F := Ideal) (View.ld C (Rect.unit (s := S8x5632) ![0, hi] ![8, 512] hcx)))) x
      = HIDv XN x6 x7 C ((Rect.unit (s := S512x2816) ![0, lo] ![512, 512] hR).emb x) := by
  obtain ⟨r, c, rfl⟩ : ∃ (r : Fin 512) (c : Fin 512), x = ix2 r c := ⟨x 0, x 1, eq_ix2 x⟩
  have hb : lo + 512 ≤ 2816 := hR 1
  refine (gate512 _ _ _ _ _ _ _ _ r c).trans ?_
  have e : (Rect.unit (s := S512x2816) ![0, lo] ![512, 512] hR).emb (ix2 r c) = ix2 r (⟨lo + c.val, by omega⟩ : Fin 2816) := by
    funext a; apply Fin.ext; rw [Rect.emb_apply]; fin_cases a
    · show 0 + 1 * r.val = r.val; omega
    · show lo + 1 * c.val = lo + c.val; omega
  rw [e]
  have el : ∀ j : Fin 3, (View.ld x7 (Rect.unit (s := S3x5632) ![0, lo] ![3, 512] h7)) (ix2 j c) = x7 (ix2 j ⟨lo + c.val, by omega⟩) := fun j => by pointwise []
  have eh : ∀ j : Fin 3, (View.ld x7 (Rect.unit (s := S3x5632) ![0, hi] ![3, 512] h7x)) (ix2 j c) = x7 (ix2 j ⟨hi + c.val, by omega⟩) := fun j => by pointwise []
  subst hh
  rw [el, el, el, eh, eh, eh, ext512 XN x6 C lo 512 6, ext512 XN x6 C lo 512 7, ext512 XN x6 C (2816 + lo) 512 6, ext512 XN x6 C (2816 + lo) 512 7, up512, up512]
  show _ = HID XN x6 x7 C r ⟨lo + c.val, by omega⟩
  unfold HID CV
  have e2 : (⟨2816 + lo + c.val, by omega⟩ : Fin 5632) = ⟨2816 + (lo + c.val), by omega⟩ := Fin.ext (by show 2816 + lo + c.val = 2816 + (lo + c.val); omega)
  rw [e2]

/-- One tile of the rows carried on. -/
theorem carry512 (h6 : ∀ a, (![0, lo] : Fin 2 → ℕ) a + (![1024, 512] : Fin 2 → ℕ) a ≤ S1024x5632.size a) (hc : ∀ a, (![0, lo] : Fin 2 → ℕ) a + (![8, 512] : Fin 2 → ℕ) a ≤ S8x5632.size a) (ho512 : 512 + 8 ≤ 520)
    (x : (⟨2, ![8, 512]⟩ : Shape).Idx) :
    k0_pay8 (F := Ideal) (slot 512 ho512 (k0_pay7 (F := Ideal) XN (View.ld x6 (Rect.unit (s := S1024x5632) ![0, lo] ![1024, 512] h6))) (k0_pay6 (F := Ideal) (View.ld C (Rect.unit (s := S8x5632) ![0, lo] ![8, 512] hc)))) x = CARv XN x6 ((Rect.unit (s := S8x5632) ![0, lo] ![8, 512] hc).emb x) := by
  obtain ⟨r, c, rfl⟩ : ∃ (r : Fin 8) (c : Fin 512), x = ix2 r c := ⟨x 0, x 1, eq_ix2 x⟩
  have hb : lo + 512 ≤ 5632 := hc 1
  have e : (Rect.unit (s := S8x5632) ![0, lo] ![8, 512] hc).emb (ix2 r c) = ix2 r (⟨lo + c.val, by omega⟩ : Fin 5632) := by
    funext a; apply Fin.ext; rw [Rect.emb_apply]; fin_cases a
    · show 0 + 1 * r.val = r.val; omega
    · show lo + 1 * c.val = lo + c.val; omega
  rw [e]
  refine Eq.trans (b := (slot 512 ho512 (k0_pay7 (F := Ideal) XN (View.ld x6 (Rect.unit (s := S1024x5632) ![0, lo] ![1024, 512] h6))) (k0_pay6 (F := Ideal) (View.ld C (Rect.unit (s := S8x5632) ![0, lo] ![8, 512] hc)))) (ix2 r c)) (by pointwise [k0_pay8, k0_pay67]) ?_
  rw [ext512 XN x6 C lo 8 512]
  unfold EXT
  refine (dif_neg (by omega)).trans ?_
  show _ = UPB XN x6 ⟨504 + r.val, _⟩ _
  congr 1
  apply Fin.ext
  show 512 + r.val - 8 = 504 + r.val
  omega

theorem gate256 (U U' S6 S7 S6' S7' : Vec Ideal ⟨2, ![512, 256]⟩ .f32) (w w' : Vec Ideal ⟨2, ![3, 256]⟩ .f32) (r : Fin 512) (c : Fin 256) :
    k0_pay74 (F := Ideal) (k0_pay69 (F := Ideal) U w (k0_pay68 (F := Ideal) w) S6 S7) U' w' S6' S7' (ix2 r c)
      = (w (ix2 (0 : Fin 3) c) * S6 (ix2 r c) + w (ix2 (1 : Fin 3) c) * S7 (ix2 r c) + w (ix2 (2 : Fin 3) c) * U (ix2 r c))
        * Ideal.div 1 (1 + Ideal.exp (0 - (w (ix2 (0 : Fin 3) c) * S6 (ix2 r c) + w (ix2 (1 : Fin 3) c) * S7 (ix2 r c) + w (ix2 (2 : Fin 3) c) * U (ix2 r c))))
        * (w' (ix2 (0 : Fin 3) c) * S6' (ix2 r c) + w' (ix2 (1 : Fin 3) c) * S7' (ix2 r c) + w' (ix2 (2 : Fin 3) c) * U' (ix2 r c)) := by
  pointwise [k0_pay9, k0_pay10, k0_pay11, k0_pay16, k0_pay68, k0_pay69, k0_pay74]

/-- One tile of the gated entries. -/
theorem hid256 (hi : ℕ) (hh : hi = 2816 + lo)
    (h6 : ∀ a, (![0, lo] : Fin 2 → ℕ) a + (![1024, 256] : Fin 2 → ℕ) a ≤ S1024x5632.size a) (h6x : ∀ a, (![0, hi] : Fin 2 → ℕ) a + (![1024, 256] : Fin 2 → ℕ) a ≤ S1024x5632.size a)
    (hc : ∀ a, (![0, lo] : Fin 2 → ℕ) a + (![8, 256] : Fin 2 → ℕ) a ≤ S8x5632.size a) (hcx : ∀ a, (![0, hi] : Fin 2 → ℕ) a + (![8, 256] : Fin 2 → ℕ) a ≤ S8x5632.size a)
    (h7 : ∀ a, (![0, lo] : Fin 2 → ℕ) a + (![3, 256] : Fin 2 → ℕ) a ≤ S3x5632.size a) (h7x : ∀ a, (![0, hi] : Fin 2 → ℕ) a + (![3, 256] : Fin 2 → ℕ) a ≤ S3x5632.size a)
    (hR : ∀ a, (![0, lo] : Fin 2 → ℕ) a + (![512, 256] : Fin 2 → ℕ) a ≤ S512x2816.size a) (ho6 : 6 + 512 ≤ 520) (ho7 : 7 + 512 ≤ 520)
    (x : (⟨2, ![512, 256]⟩ : Shape).Idx) :
    k0_pay74 (F := Ideal) (k0_pay69 (F := Ideal) (k0_pay64 (F := Ideal) XN (View.ld x6 (Rect.unit (s := S1024x5632) ![0, lo] ![1024, 256] h6))) (View.ld x7 (Rect.unit (s := S3x5632) ![0, lo] ![3, 256] h7)) (k0_pay68 (F := Ideal) (View.ld x7 (Rect.unit (s := S3x5632) ![0, lo] ![3, 256] h7))) (slot 6 ho6 (k0_pay66 (F := Ideal) XN (View.ld x6 (Rect.unit (s := S1024x5632) ![0, lo] ![1024, 256] h6))) (k0_pay65 (F := Ideal) (View.ld C (Rect.unit (s := S8x5632) ![0, lo] ![8, 256] hc)))) (slot 7 ho7 (k0_pay66 (F := Ideal) XN (View.ld x6 (Rect.unit (s := S1024x5632) ![0, lo] ![1024, 256] h6))) (k0_pay65 (F := Ideal) (View.ld C (Rect.unit (s := S8x5632) ![0, lo] ![8, 256] hc))))) (k0_pay64 (F := Ideal) XN (View.ld x6 (Rect.unit (s := S1024x5632) ![0, hi] ![1024, 256] h6x))) (View.ld x7 (Rect.unit (s := S3x5632) ![0, hi] ![3, 256] h7x)) (slot 6 ho6 (k0_pay66 (F := Ideal) XN (View.ld x6 (Rect.unit (s := S1024x5632) ![0, hi] ![1024, 256] h6x))) (k0_pay65 (F := Ideal) (View.ld C (Rect.unit (s := S8x5632) ![0, hi] ![8, 256] hcx)))) (slot 7 ho7 (k0_pay66 (F := Ideal) XN (View.ld x6 (Rect.unit (s := S1024x5632) ![0, hi] ![1024, 256] h6x))) (k0_pay65 (F := Ideal) (View.ld C (Rect.unit (s := S8x5632) ![0, hi] ![8, 256] hcx)))) x
      = HIDv XN x6 x7 C ((Rect.unit (s := S512x2816) ![0, lo] ![512, 256] hR).emb x) := by
  obtain ⟨r, c, rfl⟩ : ∃ (r : Fin 512) (c : Fin 256), x = ix2 r c := ⟨x 0, x 1, eq_ix2 x⟩
  have hb : lo + 256 ≤ 2816 := hR 1
  refine (gate256 _ _ _ _ _ _ _ _ r c).trans ?_
  have e : (Rect.unit (s := S512x2816) ![0, lo] ![512, 256] hR).emb (ix2 r c) = ix2 r (⟨lo + c.val, by omega⟩ : Fin 2816) := by
    funext a; apply Fin.ext; rw [Rect.emb_apply]; fin_cases a
    · show 0 + 1 * r.val = r.val; omega
    · show lo + 1 * c.val = lo + c.val; omega
  rw [e]
  have el : ∀ j : Fin 3, (View.ld x7 (Rect.unit (s := S3x5632) ![0, lo] ![3, 256] h7)) (ix2 j c) = x7 (ix2 j ⟨lo + c.val, by omega⟩) := fun j => by pointwise []
  have eh : ∀ j : Fin 3, (View.ld x7 (Rect.unit (s := S3x5632) ![0, hi] ![3, 256] h7x)) (ix2 j c) = x7 (ix2 j ⟨hi + c.val, by omega⟩) := fun j => by pointwise []
  subst hh
  rw [el, el, el, eh, eh, eh, ext256 XN x6 C lo 512 6, ext256 XN x6 C lo 512 7, ext256 XN x6 C (2816 + lo) 512 6, ext256 XN x6 C (2816 + lo) 512 7, up256, up256]
  show _ = HID XN x6 x7 C r ⟨lo + c.val, by omega⟩
  unfold HID CV
  have e2 : (⟨2816 + lo + c.val, by omega⟩ : Fin 5632) = ⟨2816 + (lo + c.val), by omega⟩ := Fin.ext (by show 2816 + lo + c.val = 2816 + (lo + c.val); omega)
  rw [e2]

/-- One tile of the rows carried on. -/
theorem carry256 (h6 : ∀ a, (![0, lo] : Fin 2 → ℕ) a + (![1024, 256] : Fin 2 → ℕ) a ≤ S1024x5632.size a) (hc : ∀ a, (![0, lo] : Fin 2 → ℕ) a + (![8, 256] : Fin 2 → ℕ) a ≤ S8x5632.size a) (ho512 : 512 + 8 ≤ 520)
    (x : (⟨2, ![8, 256]⟩ : Shape).Idx) :
    k0_pay67 (F := Ideal) (slot 512 ho512 (k0_pay66 (F := Ideal) XN (View.ld x6 (Rect.unit (s := S1024x5632) ![0, lo] ![1024, 256] h6))) (k0_pay65 (F := Ideal) (View.ld C (Rect.unit (s := S8x5632) ![0, lo] ![8, 256] hc)))) x = CARv XN x6 ((Rect.unit (s := S8x5632) ![0, lo] ![8, 256] hc).emb x) := by
  obtain ⟨r, c, rfl⟩ : ∃ (r : Fin 8) (c : Fin 256), x = ix2 r c := ⟨x 0, x 1, eq_ix2 x⟩
  have hb : lo + 256 ≤ 5632 := hc 1
  have e : (Rect.unit (s := S8x5632) ![0, lo] ![8, 256] hc).emb (ix2 r c) = ix2 r (⟨lo + c.val, by omega⟩ : Fin 5632) := by
    funext a; apply Fin.ext; rw [Rect.emb_apply]; fin_cases a
    · show 0 + 1 * r.val = r.val; omega
    · show lo + 1 * c.val = lo + c.val; omega
  rw [e]
  refine Eq.trans (b := (slot 512 ho512 (k0_pay66 (F := Ideal) XN (View.ld x6 (Rect.unit (s := S1024x5632) ![0, lo] ![1024, 256] h6))) (k0_pay65 (F := Ideal) (View.ld C (Rect.unit (s := S8x5632) ![0, lo] ![8, 256] hc)))) (ix2 r c)) (by pointwise [k0_pay8, k0_pay67]) ?_
  rw [ext256 XN x6 C lo 8 512]
  unfold EXT
  refine (dif_neg (by omega)).trans ?_
  show _ = UPB XN x6 ⟨504 + r.val, _⟩ _
  congr 1
  apply Fin.ext
  show 512 + r.val - 8 = 504 + r.val
  omega

end Cert.FfnIdeal.Tile

end
-- ==== Proof.FPieces.lean ====
module

public import proofs.«01_k».proof.Proof.Gen.FfnIdeal.Value
public import Idealize.ShloMosaic.Lib.Pointwise
public import proofs.«01_k».proof.Proof.Tile
public import Idealize.ShloMosaic.Lib.Pipeline.ValueKit
public import Idealize.ShloMosaic.Lib.Pipeline.ReadBack

/-! # What a grid point of the feed-forward kernel stores -/

@[expose] public section

set_option maxRecDepth 16384
set_option maxHeartbeats 2000000

noncomputable section

namespace Cert.FfnIdeal.Pieces

open Cert.FfnIdeal Cert.FfnIdeal.Gen Cert.FfnIdeal.Tile Idealize.ShloMosaic Idealize.ShloMosaic.TcCoe Idealize.SL.Sem

section
variable (x0 : Vec Ideal S512x1024 .f32) (x1 : Vec Ideal S512x512 .bf16) (x2 : Vec Ideal S512x256 .bf16) (x3 : Vec Ideal S512x256 .bf16)
  (x4 : Vec Ideal S1024x1024 .bf16) (x5 : Vec Ideal S1x1024 .f32)

/-- The residual rows of one grid point after the output projection. -/
def XRv : Vec Ideal S512x1024 .f32 :=
  k0_pay3 (F := Ideal) (View.ld x1 (Rect.unit ![0, 0] ![512, 512] inb_S512x512_S512x512_0_0)) (View.ld x4 (Rect.unit ![0, 0] ![512, 1024] inb_S1024x1024_S512x1024_0_0)) (View.ld x2 (Rect.unit ![0, 0] ![512, 256] inb_S512x256_S512x256_0_0)) (View.ld x4 (Rect.unit ![512, 0] ![256, 1024] inb_S1024x1024_S256x1024_512_0)) (View.ld x3 (Rect.unit ![0, 0] ![512, 256] inb_S512x256_S512x256_0_0)) (View.ld x4 (Rect.unit ![768, 0] ![256, 1024] inb_S1024x1024_S256x1024_768_0)) (View.ld x0 (Rect.unit ![0, 0] ![512, 1024] inb_S512x1024_S512x1024_0_0))

/-- Those rows normalised. -/
def XNv : Vec Ideal S512x1024 .bf16 :=
  k0_pay4 (F := Ideal) (View.ld x1 (Rect.unit ![0, 0] ![512, 512] inb_S512x512_S512x512_0_0)) (View.ld x4 (Rect.unit ![0, 0] ![512, 1024] inb_S1024x1024_S512x1024_0_0)) (View.ld x2 (Rect.unit ![0, 0] ![512, 256] inb_S512x256_S512x256_0_0)) (View.ld x4 (Rect.unit ![512, 0] ![256, 1024] inb_S1024x1024_S256x1024_512_0)) (View.ld x3 (Rect.unit ![0, 0] ![512, 256] inb_S512x256_S512x256_0_0)) (View.ld x4 (Rect.unit ![768, 0] ![256, 1024] inb_S1024x1024_S256x1024_768_0)) (View.ld x0 (Rect.unit ![0, 0] ![512, 1024] inb_S512x1024_S512x1024_0_0))
    (View.ld x5 (Rect.unit ![0, 0] ![1, 1024] inb_S1x1024_S1x1024_0_0))

/-- The result rows of one grid point, from the gated entries. -/
def YV (H : Vec Ideal S512x2816 .bf16) (x8 : Vec Ideal S2816x1024 .bf16) : Vec Ideal S512x1024 .f32 :=
  k0_pay1 (F := Ideal) (XRv x0 x1 x2 x3 x4) H (View.ld x8 (Rect.unit ![0, 0] ![2816, 1024] inb_S2816x1024_S2816x1024_0_0))
end

/-- A read over pieces that all come from one array, and cover, is that array's read. -/
theorem read_all {κ : Kind} {sp : Space} {s : Shape} {e : EltTy} (v : View sig κ sp s e) (L : List (View.Piece (Elt Ideal) s e)) (G : s.Idx → Elt Ideal e)
    (B : LoadRect s) (hp : ∀ p ∈ L, ∀ x, p.2 x = G (p.1.emb x)) (hc : ∀ y, ∃ p ∈ L, y ∈ p.1.set) :
    v.readCov L B = fun j => G (B.idx j) := by
  rw [View.readCov_eq_canon']
  funext j
  exact View.canon_apply_of_pieces _ _ hp _ (hc _)

/-- Only the newest `n` pieces matter where they cover. -/
theorem canon_take {s : Shape} {e : EltTy} (n : ℕ) (G : s.Idx → Elt Ideal e) (y : s.Idx) :
    ∀ L : List (View.Piece (Elt Ideal) s e), (∀ p ∈ L.take n, ∀ x, p.2 x = G (p.1.emb x)) → (∃ p ∈ L.take n, y ∈ p.1.set) → View.canon L y = G y := by
  induction n with
  | zero => intro L _ hc; obtain ⟨p, hp, _⟩ := hc; simp at hp
  | succ n ih =>
    intro L hp hc
    cases L with
    | nil => obtain ⟨p, hp, _⟩ := hc; simp at hp
    | cons p L =>
      rw [List.take_succ_cons] at hp hc
      by_cases hy : y ∈ p.1.set
      · obtain ⟨x, rfl⟩ := p.1.exists_idx_of_mem hy
        rw [show p.1.idx x = p.1.emb x from rfl, View.canon_cons_emb]
        exact hp p List.mem_cons_self x
      · rw [View.canon_cons_of_not_mem _ _ hy]
        refine ih L (fun q hq => hp q (List.mem_cons_of_mem _ hq)) ?_
        obtain ⟨q, hq, hqy⟩ := hc
        rcases List.mem_cons.mp hq with rfl | hq
        · exact absurd hqy hy
        · exact ⟨q, hq, hqy⟩

/-- `read_all` with older pieces underneath. -/
theorem read_take {κ : Kind} {sp : Space} {s : Shape} {e : EltTy} (n : ℕ) (v : View sig κ sp s e) (L : List (View.Piece (Elt Ideal) s e)) (G : s.Idx → Elt Ideal e)
    (B : LoadRect s) (hp : ∀ p ∈ L.take n, ∀ x, p.2 x = G (p.1.emb x)) (hc : ∀ y, ∃ p ∈ L.take n, y ∈ p.1.set) :
    v.readCov L B = fun j => G (B.idx j) := by
  rw [View.readCov_eq_canon']
  funext j
  exact canon_take n G _ L hp (hc _)

theorem whole1024 (h : ∀ a, (![0, 0] : Fin 2 → ℕ) a + (![512, 1024] : Fin 2 → ℕ) a ≤ S512x1024.size a) (x : (⟨2, ![512, 1024]⟩ : Shape).Idx) :
    (Rect.unit (s := S512x1024) ![0, 0] ![512, 1024] h).emb x = x := by
  obtain ⟨r, c, rfl⟩ : ∃ (r : Fin 512) (c : Fin 1024), x = ix2 r c := ⟨x 0, x 1, eq_ix2 x⟩
  funext a; apply Fin.ext; rw [Rect.emb_apply]; fin_cases a
  · show 0 + 1 * r.val = r.val; omega
  · show 0 + 1 * c.val = c.val; omega

theorem whole2816 (h : ∀ a, (![0, 0] : Fin 2 → ℕ) a + (![512, 2816] : Fin 2 → ℕ) a ≤ S512x2816.size a) (x : (⟨2, ![512, 2816]⟩ : Shape).Idx) :
    (Rect.unit (s := S512x2816) ![0, 0] ![512, 2816] h).toLoadRect.idx x = x := by
  obtain ⟨r, c, rfl⟩ : ∃ (r : Fin 512) (c : Fin 2816), x = ix2 r c := ⟨x 0, x 1, eq_ix2 x⟩
  funext a; apply Fin.ext; rw [LoadRect.idx_apply]; fin_cases a
  · show 0 + 1 * r.val = r.val; omega
  · show 0 + 1 * c.val = c.val; omega

theorem whole5632 (h : ∀ a, (![0, 0] : Fin 2 → ℕ) a + (![8, 5632] : Fin 2 → ℕ) a ≤ S8x5632.size a) (x : (⟨2, ![8, 5632]⟩ : Shape).Idx) :
    (Rect.unit (s := S8x5632) ![0, 0] ![8, 5632] h).toLoadRect.idx x = x ∧ (Rect.unit (s := S8x5632) ![0, 0] ![8, 5632] h).emb x = x := by
  obtain ⟨r, c, rfl⟩ : ∃ (r : Fin 8) (c : Fin 5632), x = ix2 r c := ⟨x 0, x 1, eq_ix2 x⟩
  constructor
  · funext a; apply Fin.ext; rw [LoadRect.idx_apply]; fin_cases a
    · show 0 + 1 * r.val = r.val; omega
    · show 0 + 1 * c.val = c.val; omega
  · funext a; apply Fin.ext; rw [Rect.emb_apply]; fin_cases a
    · show 0 + 1 * r.val = r.val; omega
    · show 0 + 1 * c.val = c.val; omega

theorem cast9 (x9 : Vec Ideal S8x5632 .f32) : (k0_pay2 (F := Ideal) (View.ld x9 (Rect.unit ![0, 0] ![8, 5632] inb_S8x5632_S8x5632_0_0))) = x9 := by
  funext x
  obtain ⟨r, c, rfl⟩ : ∃ (r : Fin 8) (c : Fin 5632), x = ix2 r c := ⟨x 0, x 1, eq_ix2 x⟩
  pointwise [k0_pay2]

/-- The carried rows the first grid point leaves. -/
theorem carryA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = CARv (XNv x0 x1 x2 x3 x4 x5) x6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  refine funext fun y => canon_take 12 _ y _ ?_ (View.cover_of_tiledBy _ ![8, 256] (by sl_kernel_rfl) y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have e1 := fun s => @Slot.slot_read _ _ (Memref.view arg14) s 256 8 512
  have e2 := fun s => @Slot.slot_read _ _ (Memref.view arg14) s 512 8 512
  simp (disch := decide) only [↓ e1, ↓ e2, ↓ View.readCov_skip, ↓ View.readCov_fill, cast9]
  clear e1 e2
  unfold XNv
  generalize hXN : k0_pay4 (F := Ideal) _ _ _ _ _ _ _ _ = XN
  clear hXN
  refine List.forall_mem_cons.mpr ⟨carry256 XN x6 x9 5376 inb_S1024x5632_S1024x256_0_5376 inb_S8x5632_S8x256_0_5376 (by decide), ?_⟩
  refine List.forall_mem_cons.mpr ⟨carry256 XN x6 x9 2560 inb_S1024x5632_S1024x256_0_2560 inb_S8x5632_S8x256_0_2560 (by decide), ?_⟩
  refine List.forall_mem_cons.mpr ⟨carry512 XN x6 x9 4864 inb_S1024x5632_S1024x512_0_4864 inb_S8x5632_S8x512_0_4864 (by decide), ?_⟩
  refine List.forall_mem_cons.mpr ⟨carry512 XN x6 x9 2048 inb_S1024x5632_S1024x512_0_2048 inb_S8x5632_S8x512_0_2048 (by decide), ?_⟩
  refine List.forall_mem_cons.mpr ⟨carry512 XN x6 x9 4352 inb_S1024x5632_S1024x512_0_4352 inb_S8x5632_S8x512_0_4352 (by decide), ?_⟩
  refine List.forall_mem_cons.mpr ⟨carry512 XN x6 x9 1536 inb_S1024x5632_S1024x512_0_1536 inb_S8x5632_S8x512_0_1536 (by decide), ?_⟩
  refine List.forall_mem_cons.mpr ⟨carry512 XN x6 x9 3840 inb_S1024x5632_S1024x512_0_3840 inb_S8x5632_S8x512_0_3840 (by decide), ?_⟩
  refine List.forall_mem_cons.mpr ⟨carry512 XN x6 x9 1024 inb_S1024x5632_S1024x512_0_1024 inb_S8x5632_S8x512_0_1024 (by decide), ?_⟩
  refine List.forall_mem_cons.mpr ⟨carry512 XN x6 x9 3328 inb_S1024x5632_S1024x512_0_3328 inb_S8x5632_S8x512_0_3328 (by decide), ?_⟩
  refine List.forall_mem_cons.mpr ⟨carry512 XN x6 x9 512 inb_S1024x5632_S1024x512_0_512 inb_S8x5632_S8x512_0_512 (by decide), ?_⟩
  refine List.forall_mem_cons.mpr ⟨carry512 XN x6 x9 2816 inb_S1024x5632_S1024x512_0_2816 inb_S8x5632_S8x512_0_2816 (by decide), ?_⟩
  refine List.forall_mem_cons.mpr ⟨carry512 XN x6 x9 0 inb_S1024x5632_S1024x512_0_0 inb_S8x5632_S8x512_0_0 (by decide), ?_⟩
  exact fun p hp => absurd hp List.not_mem_nil

/-- The result rows the first grid point leaves. -/
theorem rowsA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = YV x0 x1 x2 x3 x4 (HIDv (XNv x0 x1 x2 x3 x4 x5) x6 x7 x9) x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  refine funext fun y => View.canon_apply_of_pieces _ _ ?_ y (hc y)
  clear hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have e1 := fun s => @Slot.slot_read _ _ (Memref.view arg14) s 256 512 6
  have e2 := fun s => @Slot.slot_read _ _ (Memref.view arg14) s 512 512 6
  have e3 := fun s => @Slot.slot_read _ _ (Memref.view arg14) s 256 512 7
  have e4 := fun s => @Slot.slot_read _ _ (Memref.view arg14) s 512 512 7
  simp (disch := decide) only [↓ e1, ↓ e2, ↓ e3, ↓ e4, ↓ View.readCov_skip, ↓ View.readCov_fill, cast9]

  clear e1 e2 e3 e4
  unfold YV XNv
  generalize hXN : k0_pay4 (F := Ideal) _ _ _ _ _ _ _ _ = XN
  clear hXN
  refine List.forall_mem_cons.mpr ⟨fun x => ?_, fun p hp => absurd hp List.not_mem_nil⟩
  refine (congrArg (fun H => k0_pay1 (F := Ideal) _ H _ x) (read_all (Memref.view arg15) _ (HIDv XN x6 x7 x9) _ ?_ (fun y => View.cover_of_tiledBy _ ![512, 256] (by sl_kernel_rfl) y))).trans ?_
  · clear x y
    refine List.forall_mem_cons.mpr ⟨hid256 XN x6 x7 x9 2560 5376 rfl inb_S1024x5632_S1024x256_0_2560 inb_S1024x5632_S1024x256_0_5376 inb_S8x5632_S8x256_0_2560 inb_S8x5632_S8x256_0_5376 inb_S3x5632_S3x256_0_2560 inb_S3x5632_S3x256_0_5376 inb_S512x2816_S512x256_0_2560 (by decide) (by decide), ?_⟩
    refine List.forall_mem_cons.mpr ⟨hid512 XN x6 x7 x9 2048 4864 rfl inb_S1024x5632_S1024x512_0_2048 inb_S1024x5632_S1024x512_0_4864 inb_S8x5632_S8x512_0_2048 inb_S8x5632_S8x512_0_4864 inb_S3x5632_S3x512_0_2048 inb_S3x5632_S3x512_0_4864 inb_S512x2816_S512x512_0_2048 (by decide) (by decide), ?_⟩
    refine List.forall_mem_cons.mpr ⟨hid512 XN x6 x7 x9 1536 4352 rfl inb_S1024x5632_S1024x512_0_1536 inb_S1024x5632_S1024x512_0_4352 inb_S8x5632_S8x512_0_1536 inb_S8x5632_S8x512_0_4352 inb_S3x5632_S3x512_0_1536 inb_S3x5632_S3x512_0_4352 inb_S512x2816_S512x512_0_1536 (by decide) (by decide), ?_⟩
    refine List.forall_mem_cons.mpr ⟨hid512 XN x6 x7 x9 1024 3840 rfl inb_S1024x5632_S1024x512_0_1024 inb_S1024x5632_S1024x512_0_3840 inb_S8x5632_S8x512_0_1024 inb_S8x5632_S8x512_0_3840 inb_S3x5632_S3x512_0_1024 inb_S3x5632_S3x512_0_3840 inb_S512x2816_S512x512_0_1024 (by decide) (by decide), ?_⟩
    refine List.forall_mem_cons.mpr ⟨hid512 XN x6 x7 x9 512 3328 rfl inb_S1024x5632_S1024x512_0_512 inb_S1024x5632_S1024x512_0_3328 inb_S8x5632_S8x512_0_512 inb_S8x5632_S8x512_0_3328 inb_S3x5632_S3x512_0_512 inb_S3x5632_S3x512_0_3328 inb_S512x2816_S512x512_0_512 (by decide) (by decide), ?_⟩
    refine List.forall_mem_cons.mpr ⟨hid512 XN x6 x7 x9 0 2816 rfl inb_S1024x5632_S1024x512_0_0 inb_S1024x5632_S1024x512_0_2816 inb_S8x5632_S8x512_0_0 inb_S8x5632_S8x512_0_2816 inb_S3x5632_S3x512_0_0 inb_S3x5632_S3x512_0_2816 inb_S512x2816_S512x512_0_0 (by decide) (by decide), ?_⟩
    exact fun p hp => absurd hp List.not_mem_nil
  · rw [show (fun j => HIDv XN x6 x7 x9 ((Rect.unit (s := S512x2816) ![0, 0] ![512, 2816] inb_S512x2816_S512x2816_0_0).toLoadRect.idx j)) = HIDv XN x6 x7 x9 from funext fun j => congrArg _ (whole2816 _ j), whole1024 _ x]
    rfl

/-- The last rows the first grid point leaves. -/
theorem lastA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = CARv (XNv x0 x1 x2 x3 x4 x5) x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  refine funext fun y => View.canon_apply_of_pieces _ _ ?_ y (hc y)
  clear hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have e1 := fun s => @Slot.slot_read _ _ (Memref.view arg14) s 256 8 512
  have e2 := fun s => @Slot.slot_read _ _ (Memref.view arg14) s 512 8 512
  simp (disch := decide) only [↓ e1, ↓ e2, ↓ View.readCov_skip, ↓ View.readCov_fill, cast9]
  clear e1 e2
  unfold XNv
  generalize hXN : k0_pay4 (F := Ideal) _ _ _ _ _ _ _ _ = XN
  clear hXN
  refine List.forall_mem_cons.mpr ⟨fun x => ?_, fun p hp => absurd hp List.not_mem_nil⟩
  refine (congrArg (fun H : Vec Ideal S8x5632 .f32 => H x) (read_take 12 (Memref.view arg13) _ (CARv XN x6) (Rect.unit (s := S8x5632) ![0, 0] ![8, 5632] inb_S8x5632_S8x5632_0_0).toLoadRect ?_ (fun y => View.cover_of_tiledBy _ ![8, 256] (by sl_kernel_rfl) y))).trans ?_
  · clear x y
    refine List.forall_mem_cons.mpr ⟨carry256 XN x6 x9 5376 inb_S1024x5632_S1024x256_0_5376 inb_S8x5632_S8x256_0_5376 (by decide), ?_⟩
    refine List.forall_mem_cons.mpr ⟨carry256 XN x6 x9 2560 inb_S1024x5632_S1024x256_0_2560 inb_S8x5632_S8x256_0_2560 (by decide), ?_⟩
    refine List.forall_mem_cons.mpr ⟨carry512 XN x6 x9 4864 inb_S1024x5632_S1024x512_0_4864 inb_S8x5632_S8x512_0_4864 (by decide), ?_⟩
    refine List.forall_mem_cons.mpr ⟨carry512 XN x6 x9 2048 inb_S1024x5632_S1024x512_0_2048 inb_S8x5632_S8x512_0_2048 (by decide), ?_⟩
    refine List.forall_mem_cons.mpr ⟨carry512 XN x6 x9 4352 inb_S1024x5632_S1024x512_0_4352 inb_S8x5632_S8x512_0_4352 (by decide), ?_⟩
    refine List.forall_mem_cons.mpr ⟨carry512 XN x6 x9 1536 inb_S1024x5632_S1024x512_0_1536 inb_S8x5632_S8x512_0_1536 (by decide), ?_⟩
    refine List.forall_mem_cons.mpr ⟨carry512 XN x6 x9 3840 inb_S1024x5632_S1024x512_0_3840 inb_S8x5632_S8x512_0_3840 (by decide), ?_⟩
    refine List.forall_mem_cons.mpr ⟨carry512 XN x6 x9 1024 inb_S1024x5632_S1024x512_0_1024 inb_S8x5632_S8x512_0_1024 (by decide), ?_⟩
    refine List.forall_mem_cons.mpr ⟨carry512 XN x6 x9 3328 inb_S1024x5632_S1024x512_0_3328 inb_S8x5632_S8x512_0_3328 (by decide), ?_⟩
    refine List.forall_mem_cons.mpr ⟨carry512 XN x6 x9 512 inb_S1024x5632_S1024x512_0_512 inb_S8x5632_S8x512_0_512 (by decide), ?_⟩
    refine List.forall_mem_cons.mpr ⟨carry512 XN x6 x9 2816 inb_S1024x5632_S1024x512_0_2816 inb_S8x5632_S8x512_0_2816 (by decide), ?_⟩
    refine List.forall_mem_cons.mpr ⟨carry512 XN x6 x9 0 inb_S1024x5632_S1024x512_0_0 inb_S8x5632_S8x512_0_0 (by decide), ?_⟩
    exact fun p hp => absurd hp List.not_mem_nil
  · rw [(whole5632 _ x).2]
    exact congrArg _ (whole5632 _ x).1

/-- The carried rows a later grid point leaves. -/
theorem carryB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : ¬cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) (xs0 : Vec Ideal S8x5632 .f32) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = CARv (XNv x0 x1 x2 x3 x4 x5) x6 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  have hc := scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
  refine funext fun y => View.canon_apply_of_pieces _ _ ?_ y (hc y)
  clear hc
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread]
  have e1 := fun s => @Slot.slot_read _ _ (Memref.view arg14) s 256 8 512
  have e2 := fun s => @Slot.slot_read _ _ (Memref.view arg14) s 512 8 512
  simp only [e1, e2]
  clear e1 e2
  unfold XNv
  generalize hXN : k0_pay4 (F := Ideal) _ _ _ _ _ _ _ _ = XN
  clear hXN
  refine List.forall_mem_cons.mpr ⟨carry256 XN x6 xs0 5376 inb_S1024x5632_S1024x256_0_5376 inb_S8x5632_S8x256_0_5376 (by decide), ?_⟩
  refine List.forall_mem_cons.mpr ⟨carry256 XN x6 xs0 2560 inb_S1024x5632_S1024x256_0_2560 inb_S8x5632_S8x256_0_2560 (by decide), ?_⟩
  refine List.forall_mem_cons.mpr ⟨carry512 XN x6 xs0 4864 inb_S1024x5632_S1024x512_0_4864 inb_S8x5632_S8x512_0_4864 (by decide), ?_⟩
  refine List.forall_mem_cons.mpr ⟨carry512 XN x6 xs0 2048 inb_S1024x5632_S1024x512_0_2048 inb_S8x5632_S8x512_0_2048 (by decide), ?_⟩
  refine List.forall_mem_cons.mpr ⟨carry512 XN x6 xs0 4352 inb_S1024x5632_S1024x512_0_4352 inb_S8x5632_S8x512_0_4352 (by decide), ?_⟩
  refine List.forall_mem_cons.mpr ⟨carry512 XN x6 xs0 1536 inb_S1024x5632_S1024x512_0_1536 inb_S8x5632_S8x512_0_1536 (by decide), ?_⟩
  refine List.forall_mem_cons.mpr ⟨carry512 XN x6 xs0 3840 inb_S1024x5632_S1024x512_0_3840 inb_S8x5632_S8x512_0_3840 (by decide), ?_⟩
  refine List.forall_mem_cons.mpr ⟨carry512 XN x6 xs0 1024 inb_S1024x5632_S1024x512_0_1024 inb_S8x5632_S8x512_0_1024 (by decide), ?_⟩
  refine List.forall_mem_cons.mpr ⟨carry512 XN x6 xs0 3328 inb_S1024x5632_S1024x512_0_3328 inb_S8x5632_S8x512_0_3328 (by decide), ?_⟩
  refine List.forall_mem_cons.mpr ⟨carry512 XN x6 xs0 512 inb_S1024x5632_S1024x512_0_512 inb_S8x5632_S8x512_0_512 (by decide), ?_⟩
  refine List.forall_mem_cons.mpr ⟨carry512 XN x6 xs0 2816 inb_S1024x5632_S1024x512_0_2816 inb_S8x5632_S8x512_0_2816 (by decide), ?_⟩
  refine List.forall_mem_cons.mpr ⟨carry512 XN x6 xs0 0 inb_S1024x5632_S1024x512_0_0 inb_S8x5632_S8x512_0_0 (by decide), ?_⟩
  exact fun p hp => absurd hp List.not_mem_nil

/-- The result rows a later grid point leaves. -/
theorem rowsB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : ¬cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) (xs0 : Vec Ideal S8x5632 .f32) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = YV x0 x1 x2 x3 x4 (HIDv (XNv x0 x1 x2 x3 x4 x5) x6 x7 xs0) x8 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  have hc := cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
  refine funext fun y => View.canon_apply_of_pieces _ _ ?_ y (hc y)
  clear hc
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread]
  have e1 := fun s => @Slot.slot_read _ _ (Memref.view arg14) s 256 512 6
  have e2 := fun s => @Slot.slot_read _ _ (Memref.view arg14) s 512 512 6
  have e3 := fun s => @Slot.slot_read _ _ (Memref.view arg14) s 256 512 7
  have e4 := fun s => @Slot.slot_read _ _ (Memref.view arg14) s 512 512 7
  simp only [e1, e2, e3, e4]
  clear e1 e2 e3 e4
  unfold YV XNv
  generalize hXN : k0_pay4 (F := Ideal) _ _ _ _ _ _ _ _ = XN
  clear hXN
  refine List.forall_mem_cons.mpr ⟨fun x => ?_, fun p hp => absurd hp List.not_mem_nil⟩
  refine (congrArg (fun H => k0_pay1 (F := Ideal) _ H _ x) (read_all (Memref.view arg15) _ (HIDv XN x6 x7 xs0) _ ?_ (fun y => View.cover_of_tiledBy _ ![512, 256] (by sl_kernel_rfl) y))).trans ?_
  · clear x y
    refine List.forall_mem_cons.mpr ⟨hid256 XN x6 x7 xs0 2560 5376 rfl inb_S1024x5632_S1024x256_0_2560 inb_S1024x5632_S1024x256_0_5376 inb_S8x5632_S8x256_0_2560 inb_S8x5632_S8x256_0_5376 inb_S3x5632_S3x256_0_2560 inb_S3x5632_S3x256_0_5376 inb_S512x2816_S512x256_0_2560 (by decide) (by decide), ?_⟩
    refine List.forall_mem_cons.mpr ⟨hid512 XN x6 x7 xs0 2048 4864 rfl inb_S1024x5632_S1024x512_0_2048 inb_S1024x5632_S1024x512_0_4864 inb_S8x5632_S8x512_0_2048 inb_S8x5632_S8x512_0_4864 inb_S3x5632_S3x512_0_2048 inb_S3x5632_S3x512_0_4864 inb_S512x2816_S512x512_0_2048 (by decide) (by decide), ?_⟩
    refine List.forall_mem_cons.mpr ⟨hid512 XN x6 x7 xs0 1536 4352 rfl inb_S1024x5632_S1024x512_0_1536 inb_S1024x5632_S1024x512_0_4352 inb_S8x5632_S8x512_0_1536 inb_S8x5632_S8x512_0_4352 inb_S3x5632_S3x512_0_1536 inb_S3x5632_S3x512_0_4352 inb_S512x2816_S512x512_0_1536 (by decide) (by decide), ?_⟩
    refine List.forall_mem_cons.mpr ⟨hid512 XN x6 x7 xs0 1024 3840 rfl inb_S1024x5632_S1024x512_0_1024 inb_S1024x5632_S1024x512_0_3840 inb_S8x5632_S8x512_0_1024 inb_S8x5632_S8x512_0_3840 inb_S3x5632_S3x512_0_1024 inb_S3x5632_S3x512_0_3840 inb_S512x2816_S512x512_0_1024 (by decide) (by decide), ?_⟩
    refine List.forall_mem_cons.mpr ⟨hid512 XN x6 x7 xs0 512 3328 rfl inb_S1024x5632_S1024x512_0_512 inb_S1024x5632_S1024x512_0_3328 inb_S8x5632_S8x512_0_512 inb_S8x5632_S8x512_0_3328 inb_S3x5632_S3x512_0_512 inb_S3x5632_S3x512_0_3328 inb_S512x2816_S512x512_0_512 (by decide) (by decide), ?_⟩
    refine List.forall_mem_cons.mpr ⟨hid512 XN x6 x7 xs0 0 2816 rfl inb_S1024x5632_S1024x512_0_0 inb_S1024x5632_S1024x512_0_2816 inb_S8x5632_S8x512_0_0 inb_S8x5632_S8x512_0_2816 inb_S3x5632_S3x512_0_0 inb_S3x5632_S3x512_0_2816 inb_S512x2816_S512x512_0_0 (by decide) (by decide), ?_⟩
    exact fun p hp => absurd hp List.not_mem_nil
  · rw [show (fun j => HIDv XN x6 x7 xs0 ((Rect.unit (s := S512x2816) ![0, 0] ![512, 2816] inb_S512x2816_S512x2816_0_0).toLoadRect.idx j)) = HIDv XN x6 x7 xs0 from funext fun j => congrArg _ (whole2816 _ j), whole1024 _ x]
    rfl

/-- The last rows a later grid point leaves. -/
theorem lastB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S8x5632 .f32) (harg12 : arg12.IsWhole) (arg13 : Memref sig .tc .vmem S8x5632 .f32) (harg13 : arg13.IsWhole) (arg14 : Memref sig .tc .vmem S4x520x512 .f32) (harg14 : arg14.IsWhole) (arg15 : Memref sig .tc .vmem S512x2816 .bf16) (harg15 : arg15.IsWhole) (hc0 : ¬cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S8x5632 .f32) (xs0 : Vec Ideal S8x5632 .f32) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = CARv (XNv x0 x1 x2 x3 x4 x5) x6 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  have hc := cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
  refine funext fun y => View.canon_apply_of_pieces _ _ ?_ y (hc y)
  clear hc
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread]
  have e1 := fun s => @Slot.slot_read _ _ (Memref.view arg14) s 256 8 512
  have e2 := fun s => @Slot.slot_read _ _ (Memref.view arg14) s 512 8 512
  simp only [e1, e2]
  clear e1 e2
  unfold XNv
  generalize hXN : k0_pay4 (F := Ideal) _ _ _ _ _ _ _ _ = XN
  clear hXN
  refine List.forall_mem_cons.mpr ⟨fun x => ?_, fun p hp => absurd hp List.not_mem_nil⟩
  refine (congrArg (fun H : Vec Ideal S8x5632 .f32 => H x) (read_all (Memref.view arg13) _ (CARv XN x6) (Rect.unit (s := S8x5632) ![0, 0] ![8, 5632] inb_S8x5632_S8x5632_0_0).toLoadRect ?_ (fun y => View.cover_of_tiledBy _ ![8, 256] (by sl_kernel_rfl) y))).trans ?_
  · clear x y
    refine List.forall_mem_cons.mpr ⟨carry256 XN x6 xs0 5376 inb_S1024x5632_S1024x256_0_5376 inb_S8x5632_S8x256_0_5376 (by decide), ?_⟩
    refine List.forall_mem_cons.mpr ⟨carry256 XN x6 xs0 2560 inb_S1024x5632_S1024x256_0_2560 inb_S8x5632_S8x256_0_2560 (by decide), ?_⟩
    refine List.forall_mem_cons.mpr ⟨carry512 XN x6 xs0 4864 inb_S1024x5632_S1024x512_0_4864 inb_S8x5632_S8x512_0_4864 (by decide), ?_⟩
    refine List.forall_mem_cons.mpr ⟨carry512 XN x6 xs0 2048 inb_S1024x5632_S1024x512_0_2048 inb_S8x5632_S8x512_0_2048 (by decide), ?_⟩
    refine List.forall_mem_cons.mpr ⟨carry512 XN x6 xs0 4352 inb_S1024x5632_S1024x512_0_4352 inb_S8x5632_S8x512_0_4352 (by decide), ?_⟩
    refine List.forall_mem_cons.mpr ⟨carry512 XN x6 xs0 1536 inb_S1024x5632_S1024x512_0_1536 inb_S8x5632_S8x512_0_1536 (by decide), ?_⟩
    refine List.forall_mem_cons.mpr ⟨carry512 XN x6 xs0 3840 inb_S1024x5632_S1024x512_0_3840 inb_S8x5632_S8x512_0_3840 (by decide), ?_⟩
    refine List.forall_mem_cons.mpr ⟨carry512 XN x6 xs0 1024 inb_S1024x5632_S1024x512_0_1024 inb_S8x5632_S8x512_0_1024 (by decide), ?_⟩
    refine List.forall_mem_cons.mpr ⟨carry512 XN x6 xs0 3328 inb_S1024x5632_S1024x512_0_3328 inb_S8x5632_S8x512_0_3328 (by decide), ?_⟩
    refine List.forall_mem_cons.mpr ⟨carry512 XN x6 xs0 512 inb_S1024x5632_S1024x512_0_512 inb_S8x5632_S8x512_0_512 (by decide), ?_⟩
    refine List.forall_mem_cons.mpr ⟨carry512 XN x6 xs0 2816 inb_S1024x5632_S1024x512_0_2816 inb_S8x5632_S8x512_0_2816 (by decide), ?_⟩
    refine List.forall_mem_cons.mpr ⟨carry512 XN x6 xs0 0 inb_S1024x5632_S1024x512_0_0 inb_S8x5632_S8x512_0_0 (by decide), ?_⟩
    exact fun p hp => absurd hp List.not_mem_nil
  · rw [(whole5632 _ x).2]
    exact congrArg _ (whole5632 _ x).1

end Cert.FfnIdeal.Pieces

end
-- ==== Proof.FRows.lean ====
module

public import proofs.«01_k».proof.Proof.FPieces
public import Idealize.ShloMosaic.Lib.Pointwise

@[expose] public section

set_option maxRecDepth 16384

noncomputable section

namespace Cert.FfnIdeal.Rows

open Cert.FfnIdeal Cert.FfnIdeal.Gen Cert.FfnIdeal.Pieces Cert.FfnIdeal.Tile Idealize.ShloMosaic Idealize.ShloMosaic.TcCoe Idealize.SL.Sem

/-- The nine operands of the feed-forward half of the layer. -/
structure Ops where
  /-- the residual stream -/
  x : Vec Ideal S16384x1024 .f32
  /-- the attention heads -/
  oa : Vec Ideal S16384x512 .bf16
  /-- the memory heads -/
  ob : Vec Ideal S16384x256 .bf16
  /-- the remaining heads -/
  oc : Vec Ideal S16384x256 .bf16
  /-- the output weight -/
  wo : Vec Ideal S1024x1024 .f32
  /-- the gain of the normalisation -/
  g : Vec Ideal S1024 .f32
  /-- the up projection -/
  wu : Vec Ideal S1024x5632 .f32
  /-- the taps of the convolution -/
  cw : Vec Ideal S3x5632 .f32
  /-- the down projection -/
  wd : Vec Ideal S2816x1024 .f32

variable (o : Ops)

/-- The residual stream after the mixing. -/
def X (r : Fin 16384) (c : Fin 1024) : EReal :=
  o.x (ix2 r c) + ((∑ k : Fin 512, o.oa (ix2 r k) * o.wo (ix2 ⟨k.val, by omega⟩ c)) + (∑ k : Fin 256, o.ob (ix2 r k) * o.wo (ix2 ⟨512 + k.val, by omega⟩ c))
    + ∑ k : Fin 256, o.oc (ix2 r k) * o.wo (ix2 ⟨768 + k.val, by omega⟩ c))

/-- The factor that normalises a row. -/
def inv (r : Fin 16384) : EReal :=
  Ideal.rsqrt (Ideal.div (∑ k : Fin 1024, X o r k * X o r k) (Ideal.ofBits FTy.f32 1149239296#32) + Ideal.ofBits FTy.f32 897988541#32)

/-- The normalised rows. -/
def XN (r : Fin 16384) (c : Fin 1024) : EReal := X o r c * inv o r * o.g (ix1 c)

/-- The up projection of a row. -/
def UP (r : Fin 16384) (c : Fin 5632) : EReal := ∑ k : Fin 1024, XN o r k * o.wu (ix2 k c)

/-- The up projection some rows earlier, zero before the first row. -/
def back (d : ℕ) (r : Fin 16384) (c : Fin 5632) : EReal := if h : d ≤ r.val then UP o ⟨r.val - d, by omega⟩ c else 0

/-- The causal convolution over three rows. -/
def CV (r : Fin 16384) (c : Fin 5632) : EReal :=
  o.cw (ix2 0 c) * back o 2 r c + o.cw (ix2 1 c) * back o 1 r c + o.cw (ix2 2 c) * UP o r c

/-- The gated hidden row. -/
def HD (r : Fin 16384) (c : Fin 2816) : EReal :=
  CV o r ⟨c.val, by omega⟩ * Ideal.div 1 (1 + Ideal.exp (0 - CV o r ⟨c.val, by omega⟩)) * CV o r ⟨2816 + c.val, by omega⟩

/-- The layer's result. -/
def Y (r : Fin 16384) (c : Fin 1024) : EReal := X o r c + ∑ k : Fin 2816, HD o r k * o.wd (ix2 k c)

/-! ## What one tile computes -/

theorem row_lt {t : ℕ} (ht : t < 32) (i : Fin 512) : 512 * t + i.val < 16384 := by omega

theorem last_lt {t : ℕ} (ht : t < 32) (p : Fin 8) : 512 * t + (504 + p.val) < 16384 := by omega

theorem prev_lt {t : ℕ} (ht : t < 32) (p : Fin 8) : 512 * t + p.val - 8 < 16384 := by omega

section tile

variable (x0 : Vec Ideal S512x1024 .f32) (x1 : Vec Ideal S512x512 .bf16) (x2 : Vec Ideal S512x256 .bf16) (x3 : Vec Ideal S512x256 .bf16)
  (x4 : Vec Ideal S1024x1024 .bf16) (x5 : Vec Ideal S1x1024 .f32) (x6 : Vec Ideal S1024x5632 .bf16) (x7 : Vec Ideal S3x5632 .f32)
  (x8 : Vec Ideal S2816x1024 .bf16) (C : Vec Ideal S8x5632 .f32)

theorem xr (r : Fin 512) (c : Fin 1024) : XRv x0 x1 x2 x3 x4 (ix2 r c)
    = x0 (ix2 r c) + ((∑ k : Fin 512, x1 (ix2 r k) * x4 (ix2 ⟨k.val, by omega⟩ c)) + (∑ k : Fin 256, x2 (ix2 r k) * x4 (ix2 ⟨512 + k.val, by omega⟩ c))
      + ∑ k : Fin 256, x3 (ix2 r k) * x4 (ix2 ⟨768 + k.val, by omega⟩ c)) := by
  pointwise [XRv, k0_pay3]

theorem xn (r : Fin 512) (c : Fin 1024) : XNv x0 x1 x2 x3 x4 x5 (ix2 r c)
    = XRv x0 x1 x2 x3 x4 (ix2 r c) * Ideal.rsqrt (Ideal.div (∑ k : Fin 1024, XRv x0 x1 x2 x3 x4 (ix2 r k) * XRv x0 x1 x2 x3 x4 (ix2 r k)) (Ideal.ofBits FTy.f32 1149239296#32)
      + Ideal.ofBits FTy.f32 897988541#32) * x5 (ix2 0 c) := by
  unfold XNv k0_pay4 XRv
  generalize k0_pay3 (F := Ideal) _ _ _ _ _ _ _ = X
  pointwise []

theorem yv (H : Vec Ideal S512x2816 .bf16) (r : Fin 512) (c : Fin 1024) : YV x0 x1 x2 x3 x4 H x8 (ix2 r c)
    = XRv x0 x1 x2 x3 x4 (ix2 r c) + ∑ k : Fin 2816, H (ix2 r k) * x8 (ix2 k c) := by
  unfold YV
  generalize XRv _ _ _ _ _ = X
  pointwise [k0_pay1]

variable (t : ℕ) (ht : t < 32)
  (h0 : ∀ (i : Fin 512) (c : Fin 1024), x0 (ix2 i c) = o.x (ix2 ⟨512 * t + i.val, row_lt ht i⟩ c))
  (h1 : ∀ (i : Fin 512) (c : Fin 512), x1 (ix2 i c) = o.oa (ix2 ⟨512 * t + i.val, row_lt ht i⟩ c))
  (h2 : ∀ (i : Fin 512) (c : Fin 256), x2 (ix2 i c) = o.ob (ix2 ⟨512 * t + i.val, row_lt ht i⟩ c))
  (h3 : ∀ (i : Fin 512) (c : Fin 256), x3 (ix2 i c) = o.oc (ix2 ⟨512 * t + i.val, row_lt ht i⟩ c))
  (h4 : ∀ (k : Fin 1024) (c : Fin 1024), x4 (ix2 k c) = o.wo (ix2 k c))
  (h5 : ∀ c : Fin 1024, x5 (ix2 0 c) = o.g (ix1 c))
  (h6 : ∀ (k : Fin 1024) (c : Fin 5632), x6 (ix2 k c) = o.wu (ix2 k c))
  (h7 : ∀ (k : Fin 3) (c : Fin 5632), x7 (ix2 k c) = o.cw (ix2 k c))
  (h8 : ∀ (k : Fin 2816) (c : Fin 1024), x8 (ix2 k c) = o.wd (ix2 k c))
  (hC : ∀ (p : Fin 8) (c : Fin 5632), C (ix2 p c) = if h : 0 < t then UP o ⟨512 * t + p.val - 8, prev_lt ht p⟩ c else 0)

include h0 h1 h2 h3 h4 in
theorem xr_eq (i : Fin 512) (c : Fin 1024) : XRv x0 x1 x2 x3 x4 (ix2 i c) = X o ⟨512 * t + i.val, row_lt ht i⟩ c := by
  rw [xr]
  unfold X
  simp only [h0, h1, h2, h3, h4]

include h0 h1 h2 h3 h4 h5 in
theorem xn_eq (i : Fin 512) (c : Fin 1024) : XNv x0 x1 x2 x3 x4 x5 (ix2 i c) = XN o ⟨512 * t + i.val, row_lt ht i⟩ c := by
  have e := xr_eq o x0 x1 x2 x3 x4 t ht h0 h1 h2 h3 h4
  rw [xn]
  unfold XN inv
  simp only [e, h5]

include h0 h1 h2 h3 h4 h5 h6 in
theorem up_eq (i : Fin 512) (c : Fin 5632) : UPB (XNv x0 x1 x2 x3 x4 x5) x6 i c = UP o ⟨512 * t + i.val, row_lt ht i⟩ c := by
  have e := xn_eq o x0 x1 x2 x3 x4 x5 t ht h0 h1 h2 h3 h4 h5
  unfold UPB UP
  simp only [e, h6]

include h0 h1 h2 h3 h4 h5 h6 hC in
theorem ext_eq (d : ℕ) (hd : d ≤ 8) (i : Fin 512) (p : ℕ) (hp : p < 520) (hpd : p + d = 8 + i.val) (c : Fin 5632) :
    EXT (XNv x0 x1 x2 x3 x4 x5) x6 C p hp c = back o d ⟨512 * t + i.val, row_lt ht i⟩ c := by
  unfold EXT back
  by_cases h : p < 8
  · rw [dif_pos h, hC]
    by_cases h' : 0 < t
    · rw [dif_pos h', dif_pos (by dsimp only; omega)]
      congr 1
      apply Fin.ext
      dsimp only
      omega
    · rw [dif_neg h', dif_neg (by dsimp only; omega)]
  · rw [dif_neg h, dif_pos (by dsimp only; omega), up_eq o x0 x1 x2 x3 x4 x5 x6 t ht h0 h1 h2 h3 h4 h5 h6]
    congr 1
    apply Fin.ext
    dsimp only
    omega

include h0 h1 h2 h3 h4 h5 h6 h7 hC in
theorem cv_eq (i : Fin 512) (c : Fin 5632) : Tile.CV (XNv x0 x1 x2 x3 x4 x5) x6 x7 C i c = CV o ⟨512 * t + i.val, row_lt ht i⟩ c := by
  unfold Tile.CV CV
  rw [h7, h7, h7, up_eq o x0 x1 x2 x3 x4 x5 x6 t ht h0 h1 h2 h3 h4 h5 h6,
    ext_eq o x0 x1 x2 x3 x4 x5 x6 C t ht h0 h1 h2 h3 h4 h5 h6 hC 2 (by norm_num) i _ _ (by omega),
    ext_eq o x0 x1 x2 x3 x4 x5 x6 C t ht h0 h1 h2 h3 h4 h5 h6 hC 1 (by norm_num) i _ _ (by omega)]

include h0 h1 h2 h3 h4 h5 h6 h7 h8 hC in
/-- A tile's rows of the result. -/
theorem y_eq (i : Fin 512) (c : Fin 1024) :
    YV x0 x1 x2 x3 x4 (HIDv (XNv x0 x1 x2 x3 x4 x5) x6 x7 C) x8 (ix2 i c) = Y o ⟨512 * t + i.val, row_lt ht i⟩ c := by
  have e := cv_eq o x0 x1 x2 x3 x4 x5 x6 x7 C t ht h0 h1 h2 h3 h4 h5 h6 h7 hC
  rw [yv, xr_eq o x0 x1 x2 x3 x4 t ht h0 h1 h2 h3 h4]
  unfold Y
  refine congrArg (_ + ·) (Finset.sum_congr rfl fun k _ => ?_)
  rw [h8]
  refine congrArg (· * _) ?_
  show HID _ _ _ _ i k = _
  unfold HID HD
  simp only [e]

include h0 h1 h2 h3 h4 h5 h6 in
/-- The rows a tile leaves for the next. -/
theorem car_eq (p : Fin 8) (c : Fin 5632) : CARv (XNv x0 x1 x2 x3 x4 x5) x6 (ix2 p c) = UP o ⟨512 * t + (504 + p.val), last_lt ht p⟩ c :=
  up_eq o x0 x1 x2 x3 x4 x5 x6 t ht h0 h1 h2 h3 h4 h5 h6 ⟨504 + p.val, by omega⟩ c

end tile

end Cert.FfnIdeal.Rows

end
-- ==== Proof.FArrays.lean ====
module

public import proofs.«01_k».proof.Proof.FRows
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Arrays

open Cert.FfnIdeal Cert.FfnIdeal.Gen Idealize.ShloMosaic Idealize.ShloMosaic.TcCoe Idealize.SL.Sem

variable (m : (ℓ : Loc nD τ sig) → Buf (Elt Ideal) ℓ)

/-- The operands of a device. -/
def ops (c : Dev nD) : Rows.Ops where
  x := m ((c : Thread nD τ).loc main_arg0)
  oa := m ((c : Thread nD τ).loc main_arg1)
  ob := m ((c : Thread nD τ).loc main_arg2)
  oc := m ((c : Thread nD τ).loc main_arg3)
  wo := m ((c : Thread nD τ).loc main_arg4)
  g := m ((c : Thread nD τ).loc main_arg5)
  wu := m ((c : Thread nD τ).loc main_arg6)
  cw := m ((c : Thread nD τ).loc main_arg7)
  wd := m ((c : Thread nD τ).loc main_arg8)

/-! ## The operands that the host lays out -/

theorem wo_apply (c : Dev nD) (k : Fin 1024) (x : Fin 1024) : (V m c main_v0 : Vec Ideal S1024x1024 .bf16) (ix2 k x) = (ops m c).wo (ix2 k x) := by
  unfold V
  simp only [hostOps0, List.flatten_cons, List.flatten_nil, List.cons_append, List.nil_append, List.append_nil]
  after_results
  pointwise
  rfl

theorem g_apply (c : Dev nD) (x : Fin 1024) : (V m c main_v1 : Vec Ideal S1x1024 .f32) (ix2 0 x) = (ops m c).g (ix1 x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem wu_apply (c : Dev nD) (k : Fin 1024) (x : Fin 5632) : (V m c main_v2 : Vec Ideal S1024x5632 .bf16) (ix2 k x) = (ops m c).wu (ix2 k x) := by
  unfold V
  simp only [hostOps0, List.flatten_cons, List.flatten_nil, List.cons_append, List.nil_append, List.append_nil]
  after_results
  pointwise
  rfl

theorem wd_apply (c : Dev nD) (k : Fin 2816) (x : Fin 1024) : (V m c main_v3 : Vec Ideal S2816x1024 .bf16) (ix2 k x) = (ops m c).wd (ix2 k x) := by
  unfold V
  simp only [hostOps0, List.flatten_cons, List.flatten_nil, List.cons_append, List.nil_append, List.append_nil]
  after_results
  pointwise
  rfl

theorem zero_apply (c : Dev nD) (k : Fin 8) (x : Fin 5632) : (V m c main_v4 : Vec Ideal S8x5632 .f32) (ix2 k x) = (0 : EReal) := by
  unfold V
  simp only [hostOps0, List.flatten_cons, List.flatten_nil, List.cons_append, List.nil_append, List.append_nil]
  after_results
  pointwise

/-! ## The blocks of a grid point -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![0, 0] ∧ t.val < 32 :=
  (by decide +kernel : ∀ t : Fin grid0.N, _)

theorem lt (t : Fin cfg0.N) : t.val < 32 := (idx t).2.2.2.2.2.2.2.2.2.2.2.2

theorem b0 (c : Dev nD) (t : Fin cfg0.N) (i : Fin 512) (x : Fin 1024) : (iblk m c 0 t : Vec Ideal S512x1024 .f32) (ix2 i x)
    = (ops m c).x (ix2 ⟨512 * t.val + i.val, Rows.row_lt (lt t) i⟩ x) := by
  unfold ops
  blk_ext [iblk, idx t]

theorem b1 (c : Dev nD) (t : Fin cfg0.N) (i : Fin 512) (x : Fin 512) : (iblk m c 1 t : Vec Ideal S512x512 .bf16) (ix2 i x)
    = (ops m c).oa (ix2 ⟨512 * t.val + i.val, Rows.row_lt (lt t) i⟩ x) := by
  unfold ops
  blk_ext [iblk, idx t]

theorem b2 (c : Dev nD) (t : Fin cfg0.N) (i : Fin 512) (x : Fin 256) : (iblk m c 2 t : Vec Ideal S512x256 .bf16) (ix2 i x)
    = (ops m c).ob (ix2 ⟨512 * t.val + i.val, Rows.row_lt (lt t) i⟩ x) := by
  unfold ops
  blk_ext [iblk, idx t]

theorem b3 (c : Dev nD) (t : Fin cfg0.N) (i : Fin 512) (x : Fin 256) : (iblk m c 3 t : Vec Ideal S512x256 .bf16) (ix2 i x)
    = (ops m c).oc (ix2 ⟨512 * t.val + i.val, Rows.row_lt (lt t) i⟩ x) := by
  unfold ops
  blk_ext [iblk, idx t]

theorem b4 (c : Dev nD) (t : Fin cfg0.N) (i : Fin 1024) (x : Fin 1024) : (iblk m c 4 t : Vec Ideal S1024x1024 .bf16) (ix2 i x)
    = (V m c main_v0 : Vec Ideal S1024x1024 .bf16) (ix2 i x) := by
  blk_ext [iblk, idx t]

theorem b5 (c : Dev nD) (t : Fin cfg0.N) (x : Fin 1024) : (iblk m c 5 t : Vec Ideal S1x1024 .f32) (ix2 0 x)
    = (V m c main_v1 : Vec Ideal S1x1024 .f32) (ix2 0 x) := by
  blk_ext [iblk, idx t]

theorem b6 (c : Dev nD) (t : Fin cfg0.N) (i : Fin 1024) (x : Fin 5632) : (iblk m c 6 t : Vec Ideal S1024x5632 .bf16) (ix2 i x)
    = (V m c main_v2 : Vec Ideal S1024x5632 .bf16) (ix2 i x) := by
  blk_ext [iblk, idx t]

theorem b7 (c : Dev nD) (t : Fin cfg0.N) (i : Fin 3) (x : Fin 5632) : (iblk m c 7 t : Vec Ideal S3x5632 .f32) (ix2 i x)
    = (ops m c).cw (ix2 i x) := by
  unfold ops
  blk_ext [iblk, idx t]

theorem b8 (c : Dev nD) (t : Fin cfg0.N) (i : Fin 2816) (x : Fin 1024) : (iblk m c 8 t : Vec Ideal S2816x1024 .bf16) (ix2 i x)
    = (V m c main_v3 : Vec Ideal S2816x1024 .bf16) (ix2 i x) := by
  blk_ext [iblk, idx t]

theorem b9 (c : Dev nD) (t : Fin cfg0.N) (i : Fin 8) (x : Fin 5632) : (iblk m c 9 t : Vec Ideal S8x5632 .f32) (ix2 i x)
    = (V m c main_v4 : Vec Ideal S8x5632 .f32) (ix2 i x) := by
  blk_ext [iblk, idx t]

/-! ## The carried rows and the results -/

/-- The rows that a grid point leaves in the scratch and in the last window. -/
theorem carry (c : Dev nD) (t : Fin cfg0.N) (p : Fin 8) (x : Fin 5632) :
    ((outsAt0 m c t.val t.isLt).2.2 : Vec Ideal S8x5632 .f32) (ix2 p x) = Rows.UP (ops m c) ⟨512 * t.val + (504 + p.val), Rows.last_lt (lt t) p⟩ x
    ∧ ((outsAt0 m c t.val t.isLt).2.1 : Vec Ideal S8x5632 .f32) (ix2 p x) = Rows.UP (ops m c) ⟨512 * t.val + (504 + p.val), Rows.last_lt (lt t) p⟩ x := by
  have e := Rows.car_eq (ops m c) (iblk m c 0 t) (iblk m c 1 t) (iblk m c 2 t) (iblk m c 3 t) (iblk m c 4 t) (iblk m c 5 t) (iblk m c 6 t) t.val (lt t)
    (b0 m c t) (b1 m c t) (b2 m c t) (b3 m c t) (fun k x => (b4 m c t k x).trans (wo_apply m c k x)) (fun x => (b5 m c t x).trans (g_apply m c x))
    (fun k x => (b6 m c t k x).trans (wu_apply m c k x)) p x
  by_cases h0 : t.val % 32 = 0
  · rw [outsAt0_A m c t h0]
    dsimp only
    rw [Pieces.carryA, Pieces.lastA]
    exact ⟨e, e⟩
  · rw [outsAt0_B m c t h0]
    dsimp only
    rw [Pieces.carryB, Pieces.lastB]
    exact ⟨e, e⟩

/-- The rows of the result at a grid point. -/
theorem rows (c : Dev nD) (t : Fin cfg0.N) (i : Fin 512) (x : Fin 1024) :
    ((outsAt0 m c t.val t.isLt).1 : Vec Ideal S512x1024 .f32) (ix2 i x) = Rows.Y (ops m c) ⟨512 * t.val + i.val, Rows.row_lt (lt t) i⟩ x := by
  have e := fun C hC => Rows.y_eq (ops m c) (iblk m c 0 t) (iblk m c 1 t) (iblk m c 2 t) (iblk m c 3 t) (iblk m c 4 t) (iblk m c 5 t) (iblk m c 6 t) (iblk m c 7 t) (iblk m c 8 t) C t.val (lt t)
    (b0 m c t) (b1 m c t) (b2 m c t) (b3 m c t) (fun k x => (b4 m c t k x).trans (wo_apply m c k x)) (fun x => (b5 m c t x).trans (g_apply m c x))
    (fun k x => (b6 m c t k x).trans (wu_apply m c k x)) (b7 m c t) (fun k x => (b8 m c t k x).trans (wd_apply m c k x)) hC i x
  have ht := lt t
  by_cases h0 : t.val % 32 = 0
  · rw [outsAt0_A m c t h0]
    dsimp only
    rw [Pieces.rowsA]
    refine e _ fun p x => ?_
    rw [dif_neg (by omega)]
    exact (b9 m c t p x).trans (zero_apply m c p x)
  · rw [outsAt0_B m c t h0]
    dsimp only
    rw [Pieces.rowsB]
    refine e _ fun p x => ?_
    rw [dif_pos (by omega)]
    refine (carry m c ⟨t.val - 1, Nat.lt_of_le_of_lt (Nat.sub_le _ _) t.isLt⟩ p x).1.trans ?_
    congr 1
    apply Fin.ext
    dsimp only
    omega

theorem final10 (c : Dev nD) : (dats m 0 c).arrAt 10 (cfgs 0).N = fun i => Rows.Y (ops m c) (i 0) (i 1) := by
  refine (dats m 0 c).arrAt_eq_of_covers 10 _ (by decide +kernel) fun t hf y => ?_
  blk_simp [idx t]
  rw [after0_10]
  obtain ⟨i, x, rfl⟩ : ∃ (i : Fin 512) (x : Fin 1024), y = ix2 i x := ⟨y 0, y 1, eq_ix2 y⟩
  refine (rows m c t i x).trans ?_
  refine congrArg₂ (Rows.Y (ops m c)) (Fin.ext ?_) (Fin.ext ?_)
  · blk_simp [idx t]
    show 512 * t.val + i.val = t.val * 512 + i.val
    rw [Nat.mul_comm]
  · blk_simp [idx t]

theorem final11 (c : Dev nD) : (dats m 0 c).arrAt 11 (cfgs 0).N = fun i => Rows.UP (ops m c) ⟨16376 + (i 0).val, by have : (i 0).val < 8 := (i 0).isLt; omega⟩ (i 1) := by
  refine (dats m 0 c).arrAt_eq_of_covers 11 _ (by decide +kernel) fun t hf y => ?_
  blk_simp [idx t]
  rw [after0_11]
  obtain ⟨i, x, rfl⟩ : ∃ (i : Fin 8) (x : Fin 5632), y = ix2 i x := ⟨y 0, y 1, eq_ix2 y⟩
  refine (carry m c t i x).2.trans ?_
  have h31 : t.val = 31 := (by decide +kernel : ∀ t : Fin grid0.N, (cfg0.win 11).flush t = true → t.val = 31) t hf
  refine congrArg₂ (Rows.UP (ops m c)) (Fin.ext ?_) (Fin.ext ?_)
  · show 512 * t.val + (504 + i.val) = 16376 + i.val
    omega
  · blk_simp [idx t]

end Cert.FfnIdeal.Arrays

end
-- ==== Proof.FRefRead.lean ====
module

public import proofs.«01_k».proof.Proof.FRows
public import proofs.«01_k».proof.Proof.Gen.FfnReferenceIdeal.Read
public import Idealize.ShloMosaic.Lib.Pointwise

@[expose] public section

set_option maxRecDepth 16384
set_option maxHeartbeats 1000000

noncomputable section

namespace Cert.FfnReferenceIdeal.RefRead

open Cert.FfnReferenceIdeal Cert.FfnReferenceIdeal.Gen Cert.FfnReferenceIdeal.Read Idealize.ShloMosaic Idealize.ShloMosaic.TcCoe Idealize.SL.Sem
open Cert.FfnIdeal

variable (o : Rows.Ops)

/-- A sum over the joined axis, head group by head group. -/
theorem sum_split (f : Fin 1024 → EReal) : ∑ k : Fin 1024, f k
    = (∑ k : Fin 512, f ⟨k.val, by omega⟩) + (∑ k : Fin 256, f ⟨512 + k.val, by omega⟩) + ∑ k : Fin 256, f ⟨768 + k.val, by omega⟩ := by
  refine (Fin.sum_univ_add (a := 768) (b := 256) f).trans (congrArg (· + _) ?_)
  exact Fin.sum_univ_add (a := 512) (b := 256) fun k => f (Fin.castAdd 256 k)

theorem x_read (r : Fin 16384) (c : Fin 1024) : val_main_v3 (F := Ideal) o.x o.oa o.ob o.oc o.wo (ix2 r c) = Rows.X o r c := by
  pointwise [val_main_v3, val_main_v2, val_main_v1, val_main_v0]
  rw [sum_split]
  unfold Rows.X
  refine congrArg (_ + ·) (congrArg₂ (· + ·) (congrArg₂ (· + ·) ?_ ?_) ?_) <;> refine Finset.sum_congr rfl fun k _ => congrArg (· * _) ?_
  · exact dif_pos k.isLt
  · dsimp only
    refine (dif_neg (by omega)).trans ((dif_pos (by omega)).trans ?_)
    congr 3
    omega
  · dsimp only
    refine (dif_neg (by omega)).trans ((dif_neg (by omega)).trans ?_)
    congr 3
    omega

theorem xn_read (r : Fin 16384) (c : Fin 1024) : val_main_v16 (F := Ideal) o.x o.oa o.ob o.oc o.wo o.g (ix2 r c) = Rows.XN o r c := by
  have e := x_read o
  unfold val_main_v16 val_main_v13 val_main_v12 val_main_v11 val_main_v10 val_main_v8 val_main_v6 val_main_v5 val_main_v4
  revert e
  generalize val_main_v3 (F := Ideal) _ _ _ _ _ = X
  intro e
  pointwise [val_main_v15, val_main_v14, val_main_v9, val_main_v7, val_main_cst_0, val_main_cst_1, val_main_cst]
  unfold Rows.XN Rows.inv
  simp only [e]

theorem up_read (r : Fin 16384) (c : Fin 5632) : val_main_v17 (F := Ideal) o.x o.oa o.ob o.oc o.wo o.g o.wu (ix2 r c) = Rows.UP o r c := by
  have e := xn_read o
  unfold val_main_v17
  revert e
  generalize val_main_v16 (F := Ideal) _ _ _ _ _ _ = X
  intro e
  pointwise []
  unfold Rows.UP
  simp only [e]

theorem pad_zero : val_main_call0_v0 (F := Ideal) (Shape.Idx.first h_S_) = (0 : EReal) := by
  show ((_ : ℝ) : EReal) = 0
  simp [val_main_c, constantI]

/-- The padded up projection, read some rows earlier. -/
theorem pad_read (d : ℕ) (r : Fin 16384) (p : Fin 16386) (hp : p.val + d = 2 + r.val) (hd : d ≤ 2) (c : Fin 5632) :
    val_main_v18 (F := Ideal) o.x o.oa o.ob o.oc o.wo o.g o.wu (ix2 p c) = Rows.back o d r c := by
  have e := up_read o
  unfold val_main_v18
  revert e
  generalize val_main_v17 (F := Ideal) _ _ _ _ _ _ _ = X
  intro e
  pointwise []
  unfold Rows.back
  by_cases h : d ≤ r.val
  · refine (dif_pos (by omega)).trans ((e _ c).trans (Eq.trans ?_ (dif_pos h).symm))
    congr 1
    apply Fin.ext
    dsimp only
    omega
  · rw [dif_neg h]
    exact (dif_neg (by omega)).trans pad_zero

theorem back_zero (r : Fin 16384) (c : Fin 5632) : Rows.back o 0 r c = Rows.UP o r c := dif_pos (Nat.zero_le _)

theorem cv_read (r : Fin 16384) (c : Fin 5632) : val_main_v40 (F := Ideal) o.x o.oa o.ob o.oc o.wo o.g o.wu o.cw (ix2 r c) = Rows.CV o r c := by
  have e := pad_read o
  unfold val_main_v40 val_main_v39 val_main_v36 val_main_v33 val_main_v32 val_main_v29 val_main_v26 val_main_v24 val_main_v21
  revert e
  generalize val_main_v18 (F := Ideal) _ _ _ _ _ _ _ = X
  intro e
  pointwise [val_main_v38, val_main_v37, val_main_v35, val_main_v34, val_main_v31, val_main_v30, val_main_v28, val_main_v27, val_main_v25, val_main_cst_2, val_main_v23, val_main_v22, val_main_v20, val_main_v19]
  unfold Rows.CV
  rw [← back_zero]
  refine congrArg₂ (· + ·) (congrArg₂ (· + ·) (congrArg (_ * ·) ?_) (congrArg (_ * ·) ?_)) (congrArg (_ * ·) ?_)
  · exact e 2 r _ (Nat.add_comm _ _) (le_refl _) c
  · exact e 1 r _ (by dsimp only; omega) (by norm_num) c
  · exact e 0 r _ rfl (by norm_num) c

theorem hd_read (r : Fin 16384) (c : Fin 2816) : val_main_v44 (F := Ideal) o.x o.oa o.ob o.oc o.wo o.g o.wu o.cw (ix2 r c) = Rows.HD o r c := by
  have e := cv_read o
  unfold val_main_v44 val_main_v43 val_main_call1_v5 val_main_call1_v3 val_main_call1_v1 val_main_call1_v0 val_main_v42 val_main_v41
  revert e
  generalize val_main_v40 (F := Ideal) _ _ _ _ _ _ _ _ = X
  intro e
  pointwise [val_main_call1_v4, val_main_call1_v2, val_main_call1_cst, val_main_call1_cst_0]
  unfold Rows.HD
  simp only [e, sub_eq_add_neg, zero_add]

theorem y_read (r : Fin 16384) (c : Fin 1024) : val_main_v46 (F := Ideal) o.x o.oa o.ob o.oc o.wo o.g o.wu o.cw o.wd (ix2 r c) = Rows.Y o r c := by
  have e := hd_read o
  have ex := x_read o
  unfold val_main_v46 val_main_v45
  revert e ex
  generalize val_main_v44 (F := Ideal) _ _ _ _ _ _ _ _ = H
  generalize val_main_v3 (F := Ideal) _ _ _ _ _ = X
  intro e ex
  pointwise []
  unfold Rows.Y
  simp only [e, ex]

theorem last_read (i : Fin 8) (c : Fin 5632) : val_main_v47 (F := Ideal) o.x o.oa o.ob o.oc o.wo o.g o.wu (ix2 i c) = Rows.UP o ⟨16376 + i.val, by omega⟩ c := by
  have e := up_read o
  unfold val_main_v47
  revert e
  generalize val_main_v17 (F := Ideal) _ _ _ _ _ _ _ = X
  intro e
  pointwise []
  exact e _ _

end Cert.FfnReferenceIdeal.RefRead

end
-- ==== Proof.SSlot.lean ====
module

public import proofs.«01_k».proof.Proof.Gen.FfsIdeal.Value
public import Idealize.ShloMosaic.Lib.Pointwise
public import Idealize.ShloMosaic.Lib.Pipeline.ValueKit
public import Idealize.ShloMosaic.Lib.Writes

@[expose] public section

set_option maxRecDepth 16384
noncomputable section

namespace Cert.FfsIdeal.Slot

open Cert.FfsIdeal Idealize.ShloMosaic Idealize.SL.Sem

/-- Rows `o`, `o + 1`, … of a tile `U` with the carried rows `C` before it. -/
def slot {w n : ℕ} (o : ℕ) (ho : o + n ≤ 768) (U : Vec Ideal ⟨2, ![512, w]⟩ .f32) (C : Vec Ideal ⟨2, ![256, w]⟩ .f32) : Vec Ideal ⟨2, ![n, w]⟩ .f32 :=
  fun x => if h : o + (x 0).val < 256 then C (ix2 ⟨o + (x 0).val, h⟩ (x 1)) else U (ix2 ⟨o + (x 0).val - 256, by have := (x 0).isLt; change (x 0).val < n at this; omega⟩ (x 1))

variable {κ : Kind} {sp : Space} (v : View sig κ sp S4x768x512 .f32) (s w n o : ℕ)
  (hs : ∀ a, (![s, 0, 0] : Fin 3 → ℕ) a + (![1, 768, 512] : Fin 3 → ℕ) a ≤ S4x768x512.size a)
  (h8 : ∀ a, (![256, 0] : Fin 2 → ℕ) a + (![512, w] : Fin 2 → ℕ) a ≤ S768x512.size a)
  (h0 : ∀ a, (![0, 0] : Fin 2 → ℕ) a + (![256, w] : Fin 2 → ℕ) a ≤ S768x512.size a)
  (hn : ∀ a, (![o, 0] : Fin 2 → ℕ) a + (![n, w] : Fin 2 → ℕ) a ≤ S768x512.size a)
  (U : Vec Ideal ⟨2, ![512, w]⟩ .f32) (C : Vec Ideal ⟨2, ![256, w]⟩ .f32) (L : List (View.Piece (Elt Ideal) S4x768x512 .f32))
  (a1 b1 c1) (a2 b2 c2 d2 e2 f2) (g1 g2 g3 g4 g5)

/-- A load from a slot of the scratch after the tile and the carried rows have been stored into it. -/
theorem slot_read_within :
    LoadRect.valAlong (lr := (Rect.unit (s := S768x512) ![o, 0] ![n, w] hn).toLoadRect) g1
      (v.readCov
        (⟨(Rect.unit (s := S4x768x512) ![s, 0, 0] ![1, 768, 512] hs).within ((Rect.unit (s := S768x512) ![256, 0] ![512, w] h8).consLift ![1, 768, 512] a1 b1) c1,
            Rect.payAlong (r := Rect.unit (s := S768x512) ![256, 0] ![512, w] h8) g2 U⟩ ::
          ⟨(Rect.unit (s := S4x768x512) ![s, 0, 0] ![1, 768, 512] hs).within ((Rect.unit (s := S768x512) ![0, 0] ![256, w] h0).consLift ![1, 768, 512] a2 b2) c2,
            Rect.payAlong (r := Rect.unit (s := S768x512) ![0, 0] ![256, w] h0) g3 C⟩ :: L)
        ((Rect.unit (s := S4x768x512) ![s, 0, 0] ![1, 768, 512] hs).withinL
          ((Rect.unit (s := S768x512) ![o, 0] ![n, w] hn).toLoadRect.consLift ![1, 768, 512] d2 e2) f2))
    = slot o (hn 0) U C := by
  funext x
  obtain ⟨i, c, rfl⟩ : ∃ (i : Fin n) (c : Fin w), x = ix2 i c := ⟨x 0, x 1, eq_ix2 x⟩
  unfold View.readCov
  show View.readAt _ _ _ _ (Shape.reshapeEquiv g1 (ix2 i c)) = _
  rw [View.readAt_apply]
  set y := ((Rect.unit (s := S4x768x512) ![s, 0, 0] ![1, 768, 512] hs).withinL
          ((Rect.unit (s := S768x512) ![o, 0] ![n, w] hn).toLoadRect.consLift ![1, 768, 512] d2 e2) f2).idx (Shape.reshapeEquiv g1 (ix2 i c)) with hy
  have ez : ∀ a, (y a).val = (![s, o + i.val, c.val] : Fin 3 → ℕ) a := by
    intro a
    rw [hy]
    have e : Shape.reshapeEquiv g1 (ix2 i c) = (Fin.cons ⟨0, Nat.one_pos⟩ (ix2 i c) : (⟨3, Matrix.vecCons 1 ![n, w]⟩ : Shape).Idx) := Shape.reshapeEquiv_cons_one _ _
    rw [LoadRect.idx_apply]
    fin_cases a
    · show s + 0 + 1 * _ = _
      rw [e]; rfl
    · show 0 + o + 1 * _ = _
      rw [e]; show 0 + o + 1 * i.val = o + i.val; omega
    · show 0 + 0 + 1 * _ = _
      rw [e]; show 0 + 0 + 1 * c.val = c.val; omega
  have y0 : (y 0).val = s := ez 0
  have y1 : (y 1).val = o + i.val := ez 1
  have y2 : (y 2).val = c.val := ez 2
  have hon : o + n ≤ 768 := hn 0
  have hw : 0 + w ≤ 512 := hn 1
  unfold slot
  by_cases h : o + i.val < 256
  · refine Eq.trans ?_ (dif_pos h).symm
    refine (View.read_writes_cons_miss_of_axis v _ _ _ y (1 : Fin 3) 256 512 rfl rfl rfl (Or.inl (by rw [y1]; exact h))).trans ?_
    refine (View.read_writes_cons_hit_of_coords v _ _ _ _ (ix3 (0 : Fin 1) (⟨o + i.val, h⟩ : Fin 256) c) y ?_).trans ?_
    · intro a
      fin_cases a
      · exact y0.trans (by show s = s + 0 + 1 * 0; omega)
      · exact y1.trans (by first | (show o + i.val = 0 + 0 + 1 * (o + i.val); omega) | (show o + i.val = 0 + 256 + 1 * (o + i.val - 256); omega))
      · exact y2.trans (by show c.val = 0 + 0 + 1 * c.val; omega)
    · refine Rect.payAlong_consLift (Rect.unit (s := S768x512) ![0, 0] ![256, w] h0) ![1, 768, 512] a2 b2 C g3 _ (ix2 (⟨o + i.val, h⟩ : Fin 256) c) ?_
      intro a
      fin_cases a <;> rfl
  · refine Eq.trans ?_ (dif_neg h).symm
    refine (View.read_writes_cons_hit_of_coords v _ _ _ _ (ix3 (0 : Fin 1) (⟨o + i.val - 256, by omega⟩ : Fin 512) c) y ?_).trans ?_
    · intro a
      fin_cases a
      · exact y0.trans (by show s = s + 0 + 1 * 0; omega)
      · exact y1.trans (by first | (show o + i.val = 0 + 0 + 1 * (o + i.val); omega) | (show o + i.val = 0 + 256 + 1 * (o + i.val - 256); omega))
      · exact y2.trans (by show c.val = 0 + 0 + 1 * c.val; omega)
    · refine Rect.payAlong_consLift (Rect.unit (s := S768x512) ![256, 0] ![512, w] h8) ![1, 768, 512] a1 b1 U g2 _ (ix2 (⟨o + i.val - 256, by omega⟩ : Fin 512) c) ?_
      intro a
      fin_cases a <;> rfl

/-- A load from a slot of the scratch after the tile and the carried rows have been stored into it, its boxes told from the squeezed slot. -/
theorem slot_read :
    LoadRect.valAlong (lr := (Rect.unit (s := S768x512) ![o, 0] ![n, w] hn).toLoadRect) (LR := (Rect.unit (s := S768x512) ![o, 0] ![n, w] hn).toLoadRect.consLift ![1, 768, 512] d2 e2) g1
      (v.readCov
        (⟨(Rect.unit (s := S4x768x512) ![s, 0, 0] ![1, 768, 512] hs).within ((Rect.unit (s := S768x512) ![256, 0] ![512, w] h8).consLift ![1, 768, 512] a1 b1) c1,
            Rect.payAlong (r := Rect.unit (s := S768x512) ![256, 0] ![512, w] h8) (R := (Rect.unit (s := S768x512) ![256, 0] ![512, w] h8).consLift ![1, 768, 512] a1 b1) g2 U⟩ ::
          ⟨(Rect.unit (s := S4x768x512) ![s, 0, 0] ![1, 768, 512] hs).within ((Rect.unit (s := S768x512) ![0, 0] ![256, w] h0).consLift ![1, 768, 512] a2 b2) c2,
            Rect.payAlong (r := Rect.unit (s := S768x512) ![0, 0] ![256, w] h0) (R := (Rect.unit (s := S768x512) ![0, 0] ![256, w] h0).consLift ![1, 768, 512] a2 b2) g3 C⟩ :: L)
        ((Rect.unit (s := S4x768x512) ![s, 0, 0] ![1, 768, 512] hs).withinL
          ((Rect.unit (s := S768x512) ![o, 0] ![n, w] hn).toLoadRect.consLift ![1, 768, 512] d2 e2) f2))
    = slot o (hn 0) U C :=
  slot_read_within v s w n o hs h8 h0 hn U C L a1 b1 c1 a2 b2 c2 d2 e2 f2 g1 g2 g3

end Cert.FfsIdeal.Slot

end
-- ==== Proof.STile.lean ====
module

public import proofs.«01_k».proof.Proof.SSlot

/-! # One tile of columns of the feed-forward kernel, entry by entry -/

@[expose] public section

set_option maxRecDepth 16384
set_option maxHeartbeats 1000000
noncomputable section

namespace Cert.FfsIdeal.Tile

open Cert.FfsIdeal Cert.FfsIdeal.Gen Cert.FfsIdeal.Slot Idealize.ShloMosaic Idealize.ShloMosaic.TcCoe Idealize.SL.Sem

variable (XN : Vec Ideal S512x1024 .bf16) (x6 : Vec Ideal S1024x5632 .bf16) (x7 : Vec Ideal S3x5632 .f32) (C : Vec Ideal S256x5632 .f32)

/-- The widened rows of one grid point. -/
def UPB (r : Fin 512) (c : Fin 5632) : EReal := ∑ k : Fin 1024, XN (ix2 r k) * x6 (ix2 k c)

/-- The widened rows with the carried rows before them. -/
def EXT (p : ℕ) (hp : p < 768) (c : Fin 5632) : EReal :=
  if h : p < 256 then C (ix2 ⟨p, h⟩ c) else UPB XN x6 ⟨p - 256, by omega⟩ c

/-- The causal convolution of width three down the rows. -/
def CV (r : Fin 512) (c : Fin 5632) : EReal :=
  x7 (ix2 (0 : Fin 3) c) * EXT XN x6 C (0 + r.val) (by omega) c + x7 (ix2 (1 : Fin 3) c) * EXT XN x6 C (128 + r.val) (by omega) c
    + x7 (ix2 (2 : Fin 3) c) * UPB XN x6 r c

/-- The gated entries of one grid point. -/
def HID (r : Fin 512) (c : Fin 2816) : EReal :=
  CV XN x6 x7 C r ⟨c.val, by omega⟩ * Ideal.div 1 (1 + Ideal.exp (0 - CV XN x6 x7 C r ⟨c.val, by omega⟩)) * CV XN x6 x7 C r ⟨2816 + c.val, by omega⟩

/-- The gated entries as an array. -/
def HIDv : Vec Ideal S512x2816 .bf16 := fun y => HID XN x6 x7 C (y 0) (y 1)

/-- The rows carried on as an array: the last of the widened rows. -/
def CARv : Vec Ideal S256x5632 .f32 := fun y => UPB XN x6 ⟨256 + (y 0).val, by have := (y 0).isLt; change (y 0).val < 256 at this; omega⟩ (y 1)

variable (lo : ℕ)

theorem up512 (h : ∀ a, (![0, lo] : Fin 2 → ℕ) a + (![1024, 512] : Fin 2 → ℕ) a ≤ S1024x5632.size a) (r : Fin 512) (c : Fin 512) :
    k0_pay12 (F := Ideal) XN (View.ld x6 (Rect.unit (s := S1024x5632) ![0, lo] ![1024, 512] h)) (ix2 r c)
      = UPB XN x6 r ⟨lo + c.val, by have := h 1; change lo + 512 ≤ 5632 at this; omega⟩ := by
  unfold UPB
  pointwise [k0_pay12]

theorem up256 (h : ∀ a, (![0, lo] : Fin 2 → ℕ) a + (![1024, 256] : Fin 2 → ℕ) a ≤ S1024x5632.size a) (r : Fin 512) (c : Fin 256) :
    k0_pay66 (F := Ideal) XN (View.ld x6 (Rect.unit (s := S1024x5632) ![0, lo] ![1024, 256] h)) (ix2 r c)
      = UPB XN x6 r ⟨lo + c.val, by have := h 1; change lo + 256 ≤ 5632 at this; omega⟩ := by
  unfold UPB
  pointwise [k0_pay66]

/-- Tile and carried rows, read `o` rows from the top of the slot. -/
theorem ext512 (n o : ℕ) (ho : o + n ≤ 768) (h : ∀ a, (![0, lo] : Fin 2 → ℕ) a + (![1024, 512] : Fin 2 → ℕ) a ≤ S1024x5632.size a)
    (h' : ∀ a, (![0, lo] : Fin 2 → ℕ) a + (![256, 512] : Fin 2 → ℕ) a ≤ S256x5632.size a) (r : Fin n) (c : Fin 512) :
    slot o ho (k0_pay14 (F := Ideal) XN (View.ld x6 (Rect.unit (s := S1024x5632) ![0, lo] ![1024, 512] h)))
        (k0_pay13 (F := Ideal) (View.ld C (Rect.unit (s := S256x5632) ![0, lo] ![256, 512] h'))) (ix2 r c)
      = EXT XN x6 C (o + r.val) (by omega) ⟨lo + c.val, by have := h 1; change lo + 512 ≤ 5632 at this; omega⟩ := by
  unfold slot EXT
  by_cases hp : o + r.val < 256
  · refine (dif_pos hp).trans (Eq.trans ?_ (dif_pos hp).symm)
    show k0_pay13 (F := Ideal) _ (ix2 (⟨o + r.val, hp⟩ : Fin 256) c) = _
    pointwise [k0_pay13]
  · refine (dif_neg hp).trans (Eq.trans ?_ (dif_neg hp).symm)
    exact Eq.trans (by pointwise [k0_pay14]) (up512 XN x6 lo h ⟨o + r.val - 256, by omega⟩ c)

/-- Tile and carried rows, read `o` rows from the top of the slot. -/
theorem ext256 (n o : ℕ) (ho : o + n ≤ 768) (h : ∀ a, (![0, lo] : Fin 2 → ℕ) a + (![1024, 256] : Fin 2 → ℕ) a ≤ S1024x5632.size a)
    (h' : ∀ a, (![0, lo] : Fin 2 → ℕ) a + (![256, 256] : Fin 2 → ℕ) a ≤ S256x5632.size a) (r : Fin n) (c : Fin 256) :
    slot o ho (k0_pay68 (F := Ideal) XN (View.ld x6 (Rect.unit (s := S1024x5632) ![0, lo] ![1024, 256] h)))
        (k0_pay67 (F := Ideal) (View.ld C (Rect.unit (s := S256x5632) ![0, lo] ![256, 256] h'))) (ix2 r c)
      = EXT XN x6 C (o + r.val) (by omega) ⟨lo + c.val, by have := h 1; change lo + 256 ≤ 5632 at this; omega⟩ := by
  unfold slot EXT
  by_cases hp : o + r.val < 256
  · refine (dif_pos hp).trans (Eq.trans ?_ (dif_pos hp).symm)
    show k0_pay67 (F := Ideal) _ (ix2 (⟨o + r.val, hp⟩ : Fin 256) c) = _
    pointwise [k0_pay67]
  · refine (dif_neg hp).trans (Eq.trans ?_ (dif_neg hp).symm)
    exact Eq.trans (by pointwise [k0_pay68]) (up256 XN x6 lo h ⟨o + r.val - 256, by omega⟩ c)

theorem gate512 (U U' S6 S7 S6' S7' : Vec Ideal ⟨2, ![512, 512]⟩ .f32) (w w' : Vec Ideal ⟨2, ![3, 512]⟩ .f32) (r : Fin 512) (c : Fin 512) :
    k0_pay16 (F := Ideal) (k0_pay11 (F := Ideal) U w (k0_pay10 (F := Ideal) w) S6 S7) U' w' S6' S7' (ix2 r c)
      = (w (ix2 (0 : Fin 3) c) * S6 (ix2 r c) + w (ix2 (1 : Fin 3) c) * S7 (ix2 r c) + w (ix2 (2 : Fin 3) c) * U (ix2 r c))
        * Ideal.div 1 (1 + Ideal.exp (0 - (w (ix2 (0 : Fin 3) c) * S6 (ix2 r c) + w (ix2 (1 : Fin 3) c) * S7 (ix2 r c) + w (ix2 (2 : Fin 3) c) * U (ix2 r c))))
        * (w' (ix2 (0 : Fin 3) c) * S6' (ix2 r c) + w' (ix2 (1 : Fin 3) c) * S7' (ix2 r c) + w' (ix2 (2 : Fin 3) c) * U' (ix2 r c)) := by
  pointwise [k0_pay10, k0_pay11, k0_pay16, k0_pay70, k0_pay71, k0_pay76]

/-- One tile of the gated entries. -/
theorem hid512 (hi : ℕ) (hh : hi = 2816 + lo)
    (h6 : ∀ a, (![0, lo] : Fin 2 → ℕ) a + (![1024, 512] : Fin 2 → ℕ) a ≤ S1024x5632.size a) (h6x : ∀ a, (![0, hi] : Fin 2 → ℕ) a + (![1024, 512] : Fin 2 → ℕ) a ≤ S1024x5632.size a)
    (hc : ∀ a, (![0, lo] : Fin 2 → ℕ) a + (![256, 512] : Fin 2 → ℕ) a ≤ S256x5632.size a) (hcx : ∀ a, (![0, hi] : Fin 2 → ℕ) a + (![256, 512] : Fin 2 → ℕ) a ≤ S256x5632.size a)
    (h7 : ∀ a, (![0, lo] : Fin 2 → ℕ) a + (![3, 512] : Fin 2 → ℕ) a ≤ S3x5632.size a) (h7x : ∀ a, (![0, hi] : Fin 2 → ℕ) a + (![3, 512] : Fin 2 → ℕ) a ≤ S3x5632.size a)
    (hR : ∀ a, (![0, lo] : Fin 2 → ℕ) a + (![512, 512] : Fin 2 → ℕ) a ≤ S512x2816.size a) (ho6 : 0 + 512 ≤ 768) (ho7 : 128 + 512 ≤ 768)
    (x : (⟨2, ![512, 512]⟩ : Shape).Idx) :
    k0_pay16 (F := Ideal) (k0_pay11 (F := Ideal) (k0_pay12 (F := Ideal) XN (View.ld x6 (Rect.unit (s := S1024x5632) ![0, lo] ![1024, 512] h6))) (View.ld x7 (Rect.unit (s := S3x5632) ![0, lo] ![3, 512] h7)) (k0_pay10 (F := Ideal) (View.ld x7 (Rect.unit (s := S3x5632) ![0, lo] ![3, 512] h7))) (slot 0 ho6 (k0_pay14 (F := Ideal) XN (View.ld x6 (Rect.unit (s := S1024x5632) ![0, lo] ![1024, 512] h6))) (k0_pay13 (F := Ideal) (View.ld C (Rect.unit (s := S256x5632) ![0, lo] ![256, 512] hc)))) (slot 128 ho7 (k0_pay14 (F := Ideal) XN (View.ld x6 (Rect.unit (s := S1024x5632) ![0, lo] ![1024, 512] h6))) (k0_pay13 (F := Ideal) (View.ld C (Rect.unit (s := S256x5632) ![0, lo] ![256, 512] hc))))) (k0_pay12 (F := Ideal) XN (View.ld x6 (Rect.unit (s := S1024x5632) ![0, hi] ![1024, 512] h6x))) (View.ld x7 (Rect.unit (s := S3x5632) ![0, hi] ![3, 512] h7x)) (slot 0 ho6 (k0_pay14 (F := Ideal) XN (View.ld x6 (Rect.unit (s := S1024x5632) ![0, hi] ![1024, 512] h6x))) (k0_pay13 (F := Ideal) (View.ld C (Rect.unit (s := S256x5632) ![0, hi] ![256, 512] hcx)))) (slot 128 ho7 (k0_pay14 (F := Ideal) XN (View.ld x6 (Rect.unit (s := S1024x5632) ![0, hi] ![1024, 512] h6x))) (k0_pay13 (F := Ideal) (View.ld C (Rect.unit (s := S256x5632) ![0, hi] ![256, 512] hcx)))) x
      = HIDv XN x6 x7 C ((Rect.unit (s := S512x2816) ![0, lo] ![512, 512] hR).emb x) := by
  obtain ⟨r, c, rfl⟩ : ∃ (r : Fin 512) (c : Fin 512), x = ix2 r c := ⟨x 0, x 1, eq_ix2 x⟩
  have hb : lo + 512 ≤ 2816 := hR 1
  refine (gate512 _ _ _ _ _ _ _ _ r c).trans ?_
  have e : (Rect.unit (s := S512x2816) ![0, lo] ![512, 512] hR).emb (ix2 r c) = ix2 r (⟨lo + c.val, by omega⟩ : Fin 2816) := by
    funext a; apply Fin.ext; rw [Rect.emb_apply]; fin_cases a
    · show 0 + 1 * r.val = r.val; omega
    · show lo + 1 * c.val = lo + c.val; omega
  rw [e]
  have el : ∀ j : Fin 3, (View.ld x7 (Rect.unit (s := S3x5632) ![0, lo] ![3, 512] h7)) (ix2 j c) = x7 (ix2 j ⟨lo + c.val, by omega⟩) := fun j => by pointwise []
  have eh : ∀ j : Fin 3, (View.ld x7 (Rect.unit (s := S3x5632) ![0, hi] ![3, 512] h7x)) (ix2 j c) = x7 (ix2 j ⟨hi + c.val, by omega⟩) := fun j => by pointwise []
  subst hh
  rw [el, el, el, eh, eh, eh, ext512 XN x6 C lo 512 0, ext512 XN x6 C lo 512 128, ext512 XN x6 C (2816 + lo) 512 0, ext512 XN x6 C (2816 + lo) 512 128, up512, up512]
  show _ = HID XN x6 x7 C r ⟨lo + c.val, by omega⟩
  unfold HID CV
  have e2 : (⟨2816 + lo + c.val, by omega⟩ : Fin 5632) = ⟨2816 + (lo + c.val), by omega⟩ := Fin.ext (by show 2816 + lo + c.val = 2816 + (lo + c.val); omega)
  rw [e2]

/-- One tile of the rows carried on. -/
theorem carry512 (h6 : ∀ a, (![0, lo] : Fin 2 → ℕ) a + (![1024, 512] : Fin 2 → ℕ) a ≤ S1024x5632.size a) (hc : ∀ a, (![0, lo] : Fin 2 → ℕ) a + (![256, 512] : Fin 2 → ℕ) a ≤ S256x5632.size a) (ho512 : 512 + 256 ≤ 768)
    (x : (⟨2, ![256, 512]⟩ : Shape).Idx) :
    k0_pay15 (F := Ideal) (slot 512 ho512 (k0_pay14 (F := Ideal) XN (View.ld x6 (Rect.unit (s := S1024x5632) ![0, lo] ![1024, 512] h6))) (k0_pay13 (F := Ideal) (View.ld C (Rect.unit (s := S256x5632) ![0, lo] ![256, 512] hc)))) x = CARv XN x6 ((Rect.unit (s := S256x5632) ![0, lo] ![256, 512] hc).emb x) := by
  obtain ⟨r, c, rfl⟩ : ∃ (r : Fin 256) (c : Fin 512), x = ix2 r c := ⟨x 0, x 1, eq_ix2 x⟩
  have hb : lo + 512 ≤ 5632 := hc 1
  have e : (Rect.unit (s := S256x5632) ![0, lo] ![256, 512] hc).emb (ix2 r c) = ix2 r (⟨lo + c.val, by omega⟩ : Fin 5632) := by
    funext a; apply Fin.ext; rw [Rect.emb_apply]; fin_cases a
    · show 0 + 1 * r.val = r.val; omega
    · show lo + 1 * c.val = lo + c.val; omega
  rw [e]
  refine Eq.trans (b := (slot 512 ho512 (k0_pay14 (F := Ideal) XN (View.ld x6 (Rect.unit (s := S1024x5632) ![0, lo] ![1024, 512] h6))) (k0_pay13 (F := Ideal) (View.ld C (Rect.unit (s := S256x5632) ![0, lo] ![256, 512] hc)))) (ix2 r c)) (by pointwise [k0_pay15, k0_pay69]) ?_
  rw [ext512 XN x6 C lo 256 512]
  unfold EXT
  refine (dif_neg (by omega)).trans ?_
  show _ = UPB XN x6 ⟨256 + r.val, _⟩ _
  congr 1
  apply Fin.ext
  show 512 + r.val - 256 = 256 + r.val
  omega

theorem gate256 (U U' S6 S7 S6' S7' : Vec Ideal ⟨2, ![512, 256]⟩ .f32) (w w' : Vec Ideal ⟨2, ![3, 256]⟩ .f32) (r : Fin 512) (c : Fin 256) :
    k0_pay76 (F := Ideal) (k0_pay71 (F := Ideal) U w (k0_pay70 (F := Ideal) w) S6 S7) U' w' S6' S7' (ix2 r c)
      = (w (ix2 (0 : Fin 3) c) * S6 (ix2 r c) + w (ix2 (1 : Fin 3) c) * S7 (ix2 r c) + w (ix2 (2 : Fin 3) c) * U (ix2 r c))
        * Ideal.div 1 (1 + Ideal.exp (0 - (w (ix2 (0 : Fin 3) c) * S6 (ix2 r c) + w (ix2 (1 : Fin 3) c) * S7 (ix2 r c) + w (ix2 (2 : Fin 3) c) * U (ix2 r c))))
        * (w' (ix2 (0 : Fin 3) c) * S6' (ix2 r c) + w' (ix2 (1 : Fin 3) c) * S7' (ix2 r c) + w' (ix2 (2 : Fin 3) c) * U' (ix2 r c)) := by
  pointwise [k0_pay10, k0_pay11, k0_pay16, k0_pay70, k0_pay71, k0_pay76]

/-- One tile of the gated entries. -/
theorem hid256 (hi : ℕ) (hh : hi = 2816 + lo)
    (h6 : ∀ a, (![0, lo] : Fin 2 → ℕ) a + (![1024, 256] : Fin 2 → ℕ) a ≤ S1024x5632.size a) (h6x : ∀ a, (![0, hi] : Fin 2 → ℕ) a + (![1024, 256] : Fin 2 → ℕ) a ≤ S1024x5632.size a)
    (hc : ∀ a, (![0, lo] : Fin 2 → ℕ) a + (![256, 256] : Fin 2 → ℕ) a ≤ S256x5632.size a) (hcx : ∀ a, (![0, hi] : Fin 2 → ℕ) a + (![256, 256] : Fin 2 → ℕ) a ≤ S256x5632.size a)
    (h7 : ∀ a, (![0, lo] : Fin 2 → ℕ) a + (![3, 256] : Fin 2 → ℕ) a ≤ S3x5632.size a) (h7x : ∀ a, (![0, hi] : Fin 2 → ℕ) a + (![3, 256] : Fin 2 → ℕ) a ≤ S3x5632.size a)
    (hR : ∀ a, (![0, lo] : Fin 2 → ℕ) a + (![512, 256] : Fin 2 → ℕ) a ≤ S512x2816.size a) (ho6 : 0 + 512 ≤ 768) (ho7 : 128 + 512 ≤ 768)
    (x : (⟨2, ![512, 256]⟩ : Shape).Idx) :
    k0_pay76 (F := Ideal) (k0_pay71 (F := Ideal) (k0_pay66 (F := Ideal) XN (View.ld x6 (Rect.unit (s := S1024x5632) ![0, lo] ![1024, 256] h6))) (View.ld x7 (Rect.unit (s := S3x5632) ![0, lo] ![3, 256] h7)) (k0_pay70 (F := Ideal) (View.ld x7 (Rect.unit (s := S3x5632) ![0, lo] ![3, 256] h7))) (slot 0 ho6 (k0_pay68 (F := Ideal) XN (View.ld x6 (Rect.unit (s := S1024x5632) ![0, lo] ![1024, 256] h6))) (k0_pay67 (F := Ideal) (View.ld C (Rect.unit (s := S256x5632) ![0, lo] ![256, 256] hc)))) (slot 128 ho7 (k0_pay68 (F := Ideal) XN (View.ld x6 (Rect.unit (s := S1024x5632) ![0, lo] ![1024, 256] h6))) (k0_pay67 (F := Ideal) (View.ld C (Rect.unit (s := S256x5632) ![0, lo] ![256, 256] hc))))) (k0_pay66 (F := Ideal) XN (View.ld x6 (Rect.unit (s := S1024x5632) ![0, hi] ![1024, 256] h6x))) (View.ld x7 (Rect.unit (s := S3x5632) ![0, hi] ![3, 256] h7x)) (slot 0 ho6 (k0_pay68 (F := Ideal) XN (View.ld x6 (Rect.unit (s := S1024x5632) ![0, hi] ![1024, 256] h6x))) (k0_pay67 (F := Ideal) (View.ld C (Rect.unit (s := S256x5632) ![0, hi] ![256, 256] hcx)))) (slot 128 ho7 (k0_pay68 (F := Ideal) XN (View.ld x6 (Rect.unit (s := S1024x5632) ![0, hi] ![1024, 256] h6x))) (k0_pay67 (F := Ideal) (View.ld C (Rect.unit (s := S256x5632) ![0, hi] ![256, 256] hcx)))) x
      = HIDv XN x6 x7 C ((Rect.unit (s := S512x2816) ![0, lo] ![512, 256] hR).emb x) := by
  obtain ⟨r, c, rfl⟩ : ∃ (r : Fin 512) (c : Fin 256), x = ix2 r c := ⟨x 0, x 1, eq_ix2 x⟩
  have hb : lo + 256 ≤ 2816 := hR 1
  refine (gate256 _ _ _ _ _ _ _ _ r c).trans ?_
  have e : (Rect.unit (s := S512x2816) ![0, lo] ![512, 256] hR).emb (ix2 r c) = ix2 r (⟨lo + c.val, by omega⟩ : Fin 2816) := by
    funext a; apply Fin.ext; rw [Rect.emb_apply]; fin_cases a
    · show 0 + 1 * r.val = r.val; omega
    · show lo + 1 * c.val = lo + c.val; omega
  rw [e]
  have el : ∀ j : Fin 3, (View.ld x7 (Rect.unit (s := S3x5632) ![0, lo] ![3, 256] h7)) (ix2 j c) = x7 (ix2 j ⟨lo + c.val, by omega⟩) := fun j => by pointwise []
  have eh : ∀ j : Fin 3, (View.ld x7 (Rect.unit (s := S3x5632) ![0, hi] ![3, 256] h7x)) (ix2 j c) = x7 (ix2 j ⟨hi + c.val, by omega⟩) := fun j => by pointwise []
  subst hh
  rw [el, el, el, eh, eh, eh, ext256 XN x6 C lo 512 0, ext256 XN x6 C lo 512 128, ext256 XN x6 C (2816 + lo) 512 0, ext256 XN x6 C (2816 + lo) 512 128, up256, up256]
  show _ = HID XN x6 x7 C r ⟨lo + c.val, by omega⟩
  unfold HID CV
  have e2 : (⟨2816 + lo + c.val, by omega⟩ : Fin 5632) = ⟨2816 + (lo + c.val), by omega⟩ := Fin.ext (by show 2816 + lo + c.val = 2816 + (lo + c.val); omega)
  rw [e2]

/-- One tile of the rows carried on. -/
theorem carry256 (h6 : ∀ a, (![0, lo] : Fin 2 → ℕ) a + (![1024, 256] : Fin 2 → ℕ) a ≤ S1024x5632.size a) (hc : ∀ a, (![0, lo] : Fin 2 → ℕ) a + (![256, 256] : Fin 2 → ℕ) a ≤ S256x5632.size a) (ho512 : 512 + 256 ≤ 768)
    (x : (⟨2, ![256, 256]⟩ : Shape).Idx) :
    k0_pay69 (F := Ideal) (slot 512 ho512 (k0_pay68 (F := Ideal) XN (View.ld x6 (Rect.unit (s := S1024x5632) ![0, lo] ![1024, 256] h6))) (k0_pay67 (F := Ideal) (View.ld C (Rect.unit (s := S256x5632) ![0, lo] ![256, 256] hc)))) x = CARv XN x6 ((Rect.unit (s := S256x5632) ![0, lo] ![256, 256] hc).emb x) := by
  obtain ⟨r, c, rfl⟩ : ∃ (r : Fin 256) (c : Fin 256), x = ix2 r c := ⟨x 0, x 1, eq_ix2 x⟩
  have hb : lo + 256 ≤ 5632 := hc 1
  have e : (Rect.unit (s := S256x5632) ![0, lo] ![256, 256] hc).emb (ix2 r c) = ix2 r (⟨lo + c.val, by omega⟩ : Fin 5632) := by
    funext a; apply Fin.ext; rw [Rect.emb_apply]; fin_cases a
    · show 0 + 1 * r.val = r.val; omega
    · show lo + 1 * c.val = lo + c.val; omega
  rw [e]
  refine Eq.trans (b := (slot 512 ho512 (k0_pay68 (F := Ideal) XN (View.ld x6 (Rect.unit (s := S1024x5632) ![0, lo] ![1024, 256] h6))) (k0_pay67 (F := Ideal) (View.ld C (Rect.unit (s := S256x5632) ![0, lo] ![256, 256] hc)))) (ix2 r c)) (by pointwise [k0_pay15, k0_pay69]) ?_
  rw [ext256 XN x6 C lo 256 512]
  unfold EXT
  refine (dif_neg (by omega)).trans ?_
  show _ = UPB XN x6 ⟨256 + r.val, _⟩ _
  congr 1
  apply Fin.ext
  show 512 + r.val - 256 = 256 + r.val
  omega

end Cert.FfsIdeal.Tile

end
-- ==== Proof.SPieces.lean ====
module

public import proofs.«01_k».proof.Proof.Gen.FfsIdeal.Value
public import Idealize.ShloMosaic.Lib.Pointwise
public import proofs.«01_k».proof.Proof.STile
public import Idealize.ShloMosaic.Lib.Pipeline.ValueKit
public import Idealize.ShloMosaic.Lib.Pipeline.ReadBack

/-! # What a grid point of the feed-forward kernel stores -/

@[expose] public section

set_option maxRecDepth 16384
set_option maxHeartbeats 2000000

noncomputable section

namespace Cert.FfsIdeal.Pieces

open Cert.FfsIdeal Cert.FfsIdeal.Gen Cert.FfsIdeal.Tile Idealize.ShloMosaic Idealize.ShloMosaic.TcCoe Idealize.SL.Sem

section
variable (x0 : Vec Ideal S512x1024 .f32) (x1 : Vec Ideal S512x512 .bf16) (x2 : Vec Ideal S512x256 .bf16) (x3 : Vec Ideal S512x256 .bf16)
  (x4 : Vec Ideal S1024x1024 .bf16) (x5 : Vec Ideal S1x1024 .f32)

/-- The residual rows of one grid point after the output projection. -/
def XRv : Vec Ideal S512x1024 .f32 :=
  k0_pay3 (F := Ideal) (View.ld x1 (Rect.unit ![0, 0] ![512, 512] inb_S512x512_S512x512_0_0)) (View.ld x4 (Rect.unit ![0, 0] ![512, 1024] inb_S1024x1024_S512x1024_0_0)) (View.ld x2 (Rect.unit ![0, 0] ![512, 256] inb_S512x256_S512x256_0_0)) (View.ld x4 (Rect.unit ![512, 0] ![256, 1024] inb_S1024x1024_S256x1024_512_0)) (View.ld x3 (Rect.unit ![0, 0] ![512, 256] inb_S512x256_S512x256_0_0)) (View.ld x4 (Rect.unit ![768, 0] ![256, 1024] inb_S1024x1024_S256x1024_768_0)) (View.ld x0 (Rect.unit ![0, 0] ![512, 1024] inb_S512x1024_S512x1024_0_0))

/-- Those rows normalised. -/
def XNv : Vec Ideal S512x1024 .bf16 :=
  k0_pay5 (F := Ideal) (k0_pay4 (F := Ideal) (View.ld x1 (Rect.unit ![0, 0] ![512, 512] inb_S512x512_S512x512_0_0)) (View.ld x4 (Rect.unit ![0, 0] ![512, 1024] inb_S1024x1024_S512x1024_0_0)) (View.ld x2 (Rect.unit ![0, 0] ![512, 256] inb_S512x256_S512x256_0_0)) (View.ld x4 (Rect.unit ![512, 0] ![256, 1024] inb_S1024x1024_S256x1024_512_0)) (View.ld x3 (Rect.unit ![0, 0] ![512, 256] inb_S512x256_S512x256_0_0)) (View.ld x4 (Rect.unit ![768, 0] ![256, 1024] inb_S1024x1024_S256x1024_768_0)) (View.ld x0 (Rect.unit ![0, 0] ![512, 1024] inb_S512x1024_S512x1024_0_0)))
    (View.ld x5 (Rect.unit ![0, 0] ![1, 1024] inb_S1x1024_S1x1024_0_0))

/-- The result rows of one grid point, from the gated entries. -/
def YV (H : Vec Ideal S512x2816 .bf16) (x8 : Vec Ideal S2816x1024 .bf16) : Vec Ideal S512x1024 .f32 :=
  k0_pay1 (F := Ideal) (XRv x0 x1 x2 x3 x4) H (View.ld x8 (Rect.unit ![0, 0] ![2816, 1024] inb_S2816x1024_S2816x1024_0_0))
end

/-- The first tile's product, told from the normalised rows. -/
theorem pay6 (X : Vec Ideal S512x1024 .f32) (g : Vec Ideal S1x1024 .f32) (W : Vec Ideal S1024x512 .bf16) : k0_pay6 (F := Ideal) X g W = k0_pay12 (F := Ideal) (k0_pay5 (F := Ideal) X g) W := rfl

theorem pay8 (X : Vec Ideal S512x1024 .f32) (g : Vec Ideal S1x1024 .f32) (W : Vec Ideal S1024x512 .bf16) : k0_pay8 (F := Ideal) X g W = k0_pay14 (F := Ideal) (k0_pay5 (F := Ideal) X g) W := rfl

/-- A read over pieces that all come from one array, and cover, is that array's read. -/
theorem read_all {κ : Kind} {sp : Space} {s : Shape} {e : EltTy} (v : View sig κ sp s e) (L : List (View.Piece (Elt Ideal) s e)) (G : s.Idx → Elt Ideal e)
    (B : LoadRect s) (hp : ∀ p ∈ L, ∀ x, p.2 x = G (p.1.emb x)) (hc : ∀ y, ∃ p ∈ L, y ∈ p.1.set) :
    v.readCov L B = fun j => G (B.idx j) := by
  rw [View.readCov_eq_canon']
  funext j
  exact View.canon_apply_of_pieces _ _ hp _ (hc _)

/-- Only the newest `n` pieces matter where they cover. -/
theorem canon_take {s : Shape} {e : EltTy} (n : ℕ) (G : s.Idx → Elt Ideal e) (y : s.Idx) :
    ∀ L : List (View.Piece (Elt Ideal) s e), (∀ p ∈ L.take n, ∀ x, p.2 x = G (p.1.emb x)) → (∃ p ∈ L.take n, y ∈ p.1.set) → View.canon L y = G y := by
  induction n with
  | zero => intro L _ hc; obtain ⟨p, hp, _⟩ := hc; simp at hp
  | succ n ih =>
    intro L hp hc
    cases L with
    | nil => obtain ⟨p, hp, _⟩ := hc; simp at hp
    | cons p L =>
      rw [List.take_succ_cons] at hp hc
      by_cases hy : y ∈ p.1.set
      · obtain ⟨x, rfl⟩ := p.1.exists_idx_of_mem hy
        rw [show p.1.idx x = p.1.emb x from rfl, View.canon_cons_emb]
        exact hp p List.mem_cons_self x
      · rw [View.canon_cons_of_not_mem _ _ hy]
        refine ih L (fun q hq => hp q (List.mem_cons_of_mem _ hq)) ?_
        obtain ⟨q, hq, hqy⟩ := hc
        rcases List.mem_cons.mp hq with rfl | hq
        · exact absurd hqy hy
        · exact ⟨q, hq, hqy⟩

/-- `read_all` with older pieces underneath. -/
theorem read_take {κ : Kind} {sp : Space} {s : Shape} {e : EltTy} (n : ℕ) (v : View sig κ sp s e) (L : List (View.Piece (Elt Ideal) s e)) (G : s.Idx → Elt Ideal e)
    (B : LoadRect s) (hp : ∀ p ∈ L.take n, ∀ x, p.2 x = G (p.1.emb x)) (hc : ∀ y, ∃ p ∈ L.take n, y ∈ p.1.set) :
    v.readCov L B = fun j => G (B.idx j) := by
  rw [View.readCov_eq_canon']
  funext j
  exact canon_take n G _ L hp (hc _)

theorem whole1024 (h : ∀ a, (![0, 0] : Fin 2 → ℕ) a + (![512, 1024] : Fin 2 → ℕ) a ≤ S512x1024.size a) (x : (⟨2, ![512, 1024]⟩ : Shape).Idx) :
    (Rect.unit (s := S512x1024) ![0, 0] ![512, 1024] h).emb x = x := by
  obtain ⟨r, c, rfl⟩ : ∃ (r : Fin 512) (c : Fin 1024), x = ix2 r c := ⟨x 0, x 1, eq_ix2 x⟩
  funext a; apply Fin.ext; rw [Rect.emb_apply]; fin_cases a
  · show 0 + 1 * r.val = r.val; omega
  · show 0 + 1 * c.val = c.val; omega

theorem whole2816 (h : ∀ a, (![0, 0] : Fin 2 → ℕ) a + (![512, 2816] : Fin 2 → ℕ) a ≤ S512x2816.size a) (x : (⟨2, ![512, 2816]⟩ : Shape).Idx) :
    (Rect.unit (s := S512x2816) ![0, 0] ![512, 2816] h).toLoadRect.idx x = x := by
  obtain ⟨r, c, rfl⟩ : ∃ (r : Fin 512) (c : Fin 2816), x = ix2 r c := ⟨x 0, x 1, eq_ix2 x⟩
  funext a; apply Fin.ext; rw [LoadRect.idx_apply]; fin_cases a
  · show 0 + 1 * r.val = r.val; omega
  · show 0 + 1 * c.val = c.val; omega

theorem whole5632 (h : ∀ a, (![0, 0] : Fin 2 → ℕ) a + (![256, 5632] : Fin 2 → ℕ) a ≤ S256x5632.size a) (x : (⟨2, ![256, 5632]⟩ : Shape).Idx) :
    (Rect.unit (s := S256x5632) ![0, 0] ![256, 5632] h).toLoadRect.idx x = x ∧ (Rect.unit (s := S256x5632) ![0, 0] ![256, 5632] h).emb x = x := by
  obtain ⟨r, c, rfl⟩ : ∃ (r : Fin 256) (c : Fin 5632), x = ix2 r c := ⟨x 0, x 1, eq_ix2 x⟩
  constructor
  · funext a; apply Fin.ext; rw [LoadRect.idx_apply]; fin_cases a
    · show 0 + 1 * r.val = r.val; omega
    · show 0 + 1 * c.val = c.val; omega
  · funext a; apply Fin.ext; rw [Rect.emb_apply]; fin_cases a
    · show 0 + 1 * r.val = r.val; omega
    · show 0 + 1 * c.val = c.val; omega

theorem cast9 (x9 : Vec Ideal S256x5632 .f32) : (k0_pay2 (F := Ideal) (View.ld x9 (Rect.unit ![0, 0] ![256, 5632] inb_S256x5632_S256x5632_0_0))) = x9 := by
  funext x
  obtain ⟨r, c, rfl⟩ : ∃ (r : Fin 256) (c : Fin 5632), x = ix2 r c := ⟨x 0, x 1, eq_ix2 x⟩
  pointwise [k0_pay2]

/-- The result rows the only grid point leaves. -/
theorem rowsA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S256x5632 .f32) (harg10 : arg10.IsWhole) (arg11 : Memref sig .tc .vmem S512x1024 .f32) (harg11 : arg11.IsWhole) (arg12 : Memref sig .tc .vmem S256x5632 .f32) (harg12 : arg12.IsWhole) (arg13 : Memref sig .tc .vmem S256x5632 .f32) (harg13 : arg13.IsWhole) (arg14 : Memref sig .tc .vmem S4x768x512 .f32) (harg14 : arg14.IsWhole) (arg15 : Memref sig .tc .vmem S512x2816 .bf16) (harg15 : arg15.IsWhole) (hc0 : cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S256x5632 .f32) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = YV x0 x1 x2 x3 x4 (HIDv (XNv x0 x1 x2 x3 x4 x5) x6 x7 x9) x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  refine funext fun y => View.canon_apply_of_pieces _ _ ?_ y (hc y)
  clear hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have e1 := fun s => @Slot.slot_read _ _ (Memref.view arg14) s 256 512 0
  have e2 := fun s => @Slot.slot_read _ _ (Memref.view arg14) s 512 512 0
  have e3 := fun s => @Slot.slot_read _ _ (Memref.view arg14) s 256 512 128
  have e4 := fun s => @Slot.slot_read _ _ (Memref.view arg14) s 512 512 128
  simp (disch := decide) only [↓ e1, ↓ e2, ↓ e3, ↓ e4, ↓ View.readCov_skip, ↓ View.readCov_fill, cast9]

  clear e1 e2 e3 e4
  unfold YV XNv
  simp only [pay6, pay8]
  generalize hXN : k0_pay5 (F := Ideal) (k0_pay4 (F := Ideal) _ _ _ _ _ _ _) _ = XN
  clear hXN
  refine List.forall_mem_cons.mpr ⟨fun x => ?_, fun p hp => absurd hp List.not_mem_nil⟩
  refine (congrArg (fun H => k0_pay1 (F := Ideal) _ H _ x) (read_all (Memref.view arg15) _ (HIDv XN x6 x7 x9) _ ?_ (fun y => View.cover_of_tiledBy _ ![512, 256] (by sl_kernel_rfl) y))).trans ?_
  · clear x y
    refine List.forall_mem_cons.mpr ⟨hid256 XN x6 x7 x9 2560 5376 rfl inb_S1024x5632_S1024x256_0_2560 inb_S1024x5632_S1024x256_0_5376 inb_S256x5632_S256x256_0_2560 inb_S256x5632_S256x256_0_5376 inb_S3x5632_S3x256_0_2560 inb_S3x5632_S3x256_0_5376 inb_S512x2816_S512x256_0_2560 (by decide) (by decide), ?_⟩
    refine List.forall_mem_cons.mpr ⟨hid512 XN x6 x7 x9 2048 4864 rfl inb_S1024x5632_S1024x512_0_2048 inb_S1024x5632_S1024x512_0_4864 inb_S256x5632_S256x512_0_2048 inb_S256x5632_S256x512_0_4864 inb_S3x5632_S3x512_0_2048 inb_S3x5632_S3x512_0_4864 inb_S512x2816_S512x512_0_2048 (by decide) (by decide), ?_⟩
    refine List.forall_mem_cons.mpr ⟨hid512 XN x6 x7 x9 1536 4352 rfl inb_S1024x5632_S1024x512_0_1536 inb_S1024x5632_S1024x512_0_4352 inb_S256x5632_S256x512_0_1536 inb_S256x5632_S256x512_0_4352 inb_S3x5632_S3x512_0_1536 inb_S3x5632_S3x512_0_4352 inb_S512x2816_S512x512_0_1536 (by decide) (by decide), ?_⟩
    refine List.forall_mem_cons.mpr ⟨hid512 XN x6 x7 x9 1024 3840 rfl inb_S1024x5632_S1024x512_0_1024 inb_S1024x5632_S1024x512_0_3840 inb_S256x5632_S256x512_0_1024 inb_S256x5632_S256x512_0_3840 inb_S3x5632_S3x512_0_1024 inb_S3x5632_S3x512_0_3840 inb_S512x2816_S512x512_0_1024 (by decide) (by decide), ?_⟩
    refine List.forall_mem_cons.mpr ⟨hid512 XN x6 x7 x9 512 3328 rfl inb_S1024x5632_S1024x512_0_512 inb_S1024x5632_S1024x512_0_3328 inb_S256x5632_S256x512_0_512 inb_S256x5632_S256x512_0_3328 inb_S3x5632_S3x512_0_512 inb_S3x5632_S3x512_0_3328 inb_S512x2816_S512x512_0_512 (by decide) (by decide), ?_⟩
    refine List.forall_mem_cons.mpr ⟨hid512 XN x6 x7 x9 0 2816 rfl inb_S1024x5632_S1024x512_0_0 inb_S1024x5632_S1024x512_0_2816 inb_S256x5632_S256x512_0_0 inb_S256x5632_S256x512_0_2816 inb_S3x5632_S3x512_0_0 inb_S3x5632_S3x512_0_2816 inb_S512x2816_S512x512_0_0 (by decide) (by decide), ?_⟩
    exact fun p hp => absurd hp List.not_mem_nil
  · rw [show (fun j => HIDv XN x6 x7 x9 ((Rect.unit (s := S512x2816) ![0, 0] ![512, 2816] inb_S512x2816_S512x2816_0_0).toLoadRect.idx j)) = HIDv XN x6 x7 x9 from funext fun j => congrArg _ (whole2816 _ j), whole1024 _ x]
    rfl

/-- The last rows the only grid point leaves. -/
theorem lastA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S256x5632 .f32) (harg10 : arg10.IsWhole) (arg11 : Memref sig .tc .vmem S512x1024 .f32) (harg11 : arg11.IsWhole) (arg12 : Memref sig .tc .vmem S256x5632 .f32) (harg12 : arg12.IsWhole) (arg13 : Memref sig .tc .vmem S256x5632 .f32) (harg13 : arg13.IsWhole) (arg14 : Memref sig .tc .vmem S4x768x512 .f32) (harg14 : arg14.IsWhole) (arg15 : Memref sig .tc .vmem S512x2816 .bf16) (harg15 : arg15.IsWhole) (hc0 : cond0_0 i)
    (x0 : Vec Ideal S512x1024 .f32) (x1 : Vec Ideal S512x512 .bf16) (x2 : Vec Ideal S512x256 .bf16) (x3 : Vec Ideal S512x256 .bf16) (x4 : Vec Ideal S1024x1024 .bf16) (x5 : Vec Ideal S1x1024 .f32) (x6 : Vec Ideal S1024x5632 .bf16) (x7 : Vec Ideal S3x5632 .f32) (x8 : Vec Ideal S2816x1024 .bf16) (x9 : Vec Ideal S256x5632 .f32) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = CARv (XNv x0 x1 x2 x3 x4 x5) x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  refine funext fun y => View.canon_apply_of_pieces _ _ ?_ y (hc y)
  clear hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  have e1 := fun s => @Slot.slot_read _ _ (Memref.view arg14) s 256 256 512
  have e2 := fun s => @Slot.slot_read _ _ (Memref.view arg14) s 512 256 512
  simp (disch := decide) only [↓ e1, ↓ e2, ↓ View.readCov_skip, ↓ View.readCov_fill, cast9]
  clear e1 e2
  unfold XNv
  simp only [pay6, pay8]
  generalize hXN : k0_pay5 (F := Ideal) (k0_pay4 (F := Ideal) _ _ _ _ _ _ _) _ = XN
  clear hXN
  refine List.forall_mem_cons.mpr ⟨fun x => ?_, fun p hp => absurd hp List.not_mem_nil⟩
  refine (congrArg (fun H : Vec Ideal S256x5632 .f32 => H x) (read_take 12 (Memref.view arg13) _ (CARv XN x6) (Rect.unit (s := S256x5632) ![0, 0] ![256, 5632] inb_S256x5632_S256x5632_0_0).toLoadRect ?_ (fun y => View.cover_of_tiledBy _ ![256, 256] (by sl_kernel_rfl) y))).trans ?_
  · clear x y
    refine List.forall_mem_cons.mpr ⟨carry256 XN x6 x9 5376 inb_S1024x5632_S1024x256_0_5376 inb_S256x5632_S256x256_0_5376 (by decide), ?_⟩
    refine List.forall_mem_cons.mpr ⟨carry256 XN x6 x9 2560 inb_S1024x5632_S1024x256_0_2560 inb_S256x5632_S256x256_0_2560 (by decide), ?_⟩
    refine List.forall_mem_cons.mpr ⟨carry512 XN x6 x9 4864 inb_S1024x5632_S1024x512_0_4864 inb_S256x5632_S256x512_0_4864 (by decide), ?_⟩
    refine List.forall_mem_cons.mpr ⟨carry512 XN x6 x9 2048 inb_S1024x5632_S1024x512_0_2048 inb_S256x5632_S256x512_0_2048 (by decide), ?_⟩
    refine List.forall_mem_cons.mpr ⟨carry512 XN x6 x9 4352 inb_S1024x5632_S1024x512_0_4352 inb_S256x5632_S256x512_0_4352 (by decide), ?_⟩
    refine List.forall_mem_cons.mpr ⟨carry512 XN x6 x9 1536 inb_S1024x5632_S1024x512_0_1536 inb_S256x5632_S256x512_0_1536 (by decide), ?_⟩
    refine List.forall_mem_cons.mpr ⟨carry512 XN x6 x9 3840 inb_S1024x5632_S1024x512_0_3840 inb_S256x5632_S256x512_0_3840 (by decide), ?_⟩
    refine List.forall_mem_cons.mpr ⟨carry512 XN x6 x9 1024 inb_S1024x5632_S1024x512_0_1024 inb_S256x5632_S256x512_0_1024 (by decide), ?_⟩
    refine List.forall_mem_cons.mpr ⟨carry512 XN x6 x9 3328 inb_S1024x5632_S1024x512_0_3328 inb_S256x5632_S256x512_0_3328 (by decide), ?_⟩
    refine List.forall_mem_cons.mpr ⟨carry512 XN x6 x9 512 inb_S1024x5632_S1024x512_0_512 inb_S256x5632_S256x512_0_512 (by decide), ?_⟩
    refine List.forall_mem_cons.mpr ⟨carry512 XN x6 x9 2816 inb_S1024x5632_S1024x512_0_2816 inb_S256x5632_S256x512_0_2816 (by decide), ?_⟩
    refine List.forall_mem_cons.mpr ⟨carry512 XN x6 x9 0 inb_S1024x5632_S1024x512_0_0 inb_S256x5632_S256x512_0_0 (by decide), ?_⟩
    exact fun p hp => absurd hp List.not_mem_nil
  · rw [(whole5632 _ x).2]
    exact congrArg _ (whole5632 _ x).1

end Cert.FfsIdeal.Pieces

end
-- ==== Proof.SRows.lean ====
module

public import proofs.«01_k».proof.Proof.SPieces
public import Idealize.ShloMosaic.Lib.Pointwise

@[expose] public section

set_option maxRecDepth 16384

noncomputable section

namespace Cert.FfsIdeal.Rows

open Cert.FfsIdeal Cert.FfsIdeal.Gen Cert.FfsIdeal.Pieces Cert.FfsIdeal.Tile Idealize.ShloMosaic Idealize.ShloMosaic.TcCoe Idealize.SL.Sem

/-- The ten operands of the feed-forward half of the layer, at decoding. -/
structure Ops where
  /-- the residual stream -/
  x : Vec Ideal S128x4x1024 .f32
  /-- the attention heads -/
  oa : Vec Ideal S128x4x512 .bf16
  /-- the memory heads -/
  ob : Vec Ideal S128x4x256 .bf16
  /-- the remaining heads -/
  oc : Vec Ideal S128x4x256 .bf16
  /-- the output weight -/
  wo : Vec Ideal S1024x1024 .f32
  /-- the gain of the normalisation -/
  g : Vec Ideal S1024 .f32
  /-- the up projection -/
  wu : Vec Ideal S1024x5632 .f32
  /-- the taps of the convolution -/
  cw : Vec Ideal S3x5632 .f32
  /-- the down projection -/
  wd : Vec Ideal S2816x1024 .f32
  /-- the two widened rows kept of each sequence -/
  st : Vec Ideal S128x2x5632 .f32

variable (o : Ops)

/-- The residual stream after the mixing. -/
def X (b : Fin 128) (s : Fin 4) (c : Fin 1024) : EReal :=
  o.x (ix3 b s c) + ((∑ k : Fin 512, o.oa (ix3 b s k) * o.wo (ix2 ⟨k.val, by omega⟩ c)) + (∑ k : Fin 256, o.ob (ix3 b s k) * o.wo (ix2 ⟨512 + k.val, by omega⟩ c))
    + ∑ k : Fin 256, o.oc (ix3 b s k) * o.wo (ix2 ⟨768 + k.val, by omega⟩ c))

/-- The factor that normalises a row. -/
def inv (b : Fin 128) (s : Fin 4) : EReal :=
  Ideal.rsqrt (Ideal.div (∑ k : Fin 1024, X o b s k * X o b s k) (Ideal.ofBits FTy.f32 1149239296#32) + Ideal.ofBits FTy.f32 897988541#32)

/-- The normalised rows. -/
def XN (b : Fin 128) (s : Fin 4) (c : Fin 1024) : EReal := X o b s c * inv o b s * o.g (ix1 c)

/-- The up projection of a row. -/
def UP (b : Fin 128) (s : Fin 4) (c : Fin 5632) : EReal := ∑ k : Fin 1024, XN o b s k * o.wu (ix2 k c)

/-- The kept rows of a sequence and, after them, its new ones. -/
def upx (b : Fin 128) (j : Fin 6) (c : Fin 5632) : EReal :=
  if h : j.val < 2 then o.st (ix3 b ⟨j.val, h⟩ c) else UP o b ⟨j.val - 2, by omega⟩ c

theorem sub_two_lt (j : Fin 6) : j.val - 2 < 4 := by omega

theorem upx_old (b : Fin 128) (j : Fin 6) (h : j.val < 2) (c : Fin 5632) : upx o b j c = o.st (ix3 b ⟨j.val, h⟩ c) := dif_pos h

theorem upx_old_not (b : Fin 128) (j : Fin 6) (h : ¬ j.val < 2) (c : Fin 5632) : upx o b j c = UP o b ⟨j.val - 2, sub_two_lt j⟩ c := dif_neg h

/-- The causal convolution over three rows. -/
def CV (b : Fin 128) (s : Fin 4) (c : Fin 5632) : EReal :=
  o.cw (ix2 0 c) * upx o b ⟨s.val, by omega⟩ c + o.cw (ix2 1 c) * upx o b ⟨1 + s.val, by omega⟩ c + o.cw (ix2 2 c) * UP o b s c

/-- The gated hidden row. -/
def HD (b : Fin 128) (s : Fin 4) (c : Fin 2816) : EReal :=
  CV o b s ⟨c.val, by omega⟩ * Ideal.div 1 (1 + Ideal.exp (0 - CV o b s ⟨c.val, by omega⟩)) * CV o b s ⟨2816 + c.val, by omega⟩

/-- The layer's result. -/
def Y (b : Fin 128) (s : Fin 4) (c : Fin 1024) : EReal := X o b s c + ∑ k : Fin 2816, HD o b s k * o.wd (ix2 k c)

/-! ## What the one tile computes: row `i` is token `i / 128` of sequence `i % 128` -/

/-- The sequence of a row. -/
def sq {n : ℕ} (i : Fin n) : Fin 128 := ⟨i.val % 128, Nat.mod_lt _ (by norm_num)⟩

theorem tk_lt (i : Fin 512) : i.val / 128 < 4 := by omega

/-- The token of a row. -/
def tk (i : Fin 512) : Fin 4 := ⟨i.val / 128, tk_lt i⟩

theorem kp_lt (p : Fin 256) : p.val / 128 < 2 := by omega

/-- Which of a sequence's two kept rows a carried row is. -/
def kp (p : Fin 256) : Fin 2 := ⟨p.val / 128, kp_lt p⟩

theorem new_lt (p : Fin 256) : 2 + p.val / 128 < 4 := by omega

/-- Which of a sequence's new tokens a row to keep comes from. -/
def nw (p : Fin 256) : Fin 4 := ⟨2 + p.val / 128, new_lt p⟩

section tile

variable (x0 : Vec Ideal S512x1024 .f32) (x1 : Vec Ideal S512x512 .bf16) (x2 : Vec Ideal S512x256 .bf16) (x3 : Vec Ideal S512x256 .bf16)
  (x4 : Vec Ideal S1024x1024 .bf16) (x5 : Vec Ideal S1x1024 .f32) (x6 : Vec Ideal S1024x5632 .bf16) (x7 : Vec Ideal S3x5632 .f32)
  (x8 : Vec Ideal S2816x1024 .bf16) (C : Vec Ideal S256x5632 .f32)

theorem xr (r : Fin 512) (c : Fin 1024) : XRv x0 x1 x2 x3 x4 (ix2 r c)
    = x0 (ix2 r c) + ((∑ k : Fin 512, x1 (ix2 r k) * x4 (ix2 ⟨k.val, by omega⟩ c)) + (∑ k : Fin 256, x2 (ix2 r k) * x4 (ix2 ⟨512 + k.val, by omega⟩ c))
      + ∑ k : Fin 256, x3 (ix2 r k) * x4 (ix2 ⟨768 + k.val, by omega⟩ c)) := by
  pointwise [XRv, k0_pay3]

theorem xn (r : Fin 512) (c : Fin 1024) : XNv x0 x1 x2 x3 x4 x5 (ix2 r c)
    = XRv x0 x1 x2 x3 x4 (ix2 r c) * Ideal.rsqrt (Ideal.div (∑ k : Fin 1024, XRv x0 x1 x2 x3 x4 (ix2 r k) * XRv x0 x1 x2 x3 x4 (ix2 r k)) (Ideal.ofBits FTy.f32 1149239296#32)
      + Ideal.ofBits FTy.f32 897988541#32) * x5 (ix2 0 c) := by
  unfold XNv k0_pay5 k0_pay4 XRv
  generalize k0_pay3 (F := Ideal) _ _ _ _ _ _ _ = X
  pointwise []

theorem yv (H : Vec Ideal S512x2816 .bf16) (r : Fin 512) (c : Fin 1024) : YV x0 x1 x2 x3 x4 H x8 (ix2 r c)
    = XRv x0 x1 x2 x3 x4 (ix2 r c) + ∑ k : Fin 2816, H (ix2 r k) * x8 (ix2 k c) := by
  unfold YV
  generalize XRv _ _ _ _ _ = X
  pointwise [k0_pay1]

variable
  (h0 : ∀ (i : Fin 512) (c : Fin 1024), x0 (ix2 i c) = o.x (ix3 (sq i) (tk i) c))
  (h1 : ∀ (i : Fin 512) (c : Fin 512), x1 (ix2 i c) = o.oa (ix3 (sq i) (tk i) c))
  (h2 : ∀ (i : Fin 512) (c : Fin 256), x2 (ix2 i c) = o.ob (ix3 (sq i) (tk i) c))
  (h3 : ∀ (i : Fin 512) (c : Fin 256), x3 (ix2 i c) = o.oc (ix3 (sq i) (tk i) c))
  (h4 : ∀ (k : Fin 1024) (c : Fin 1024), x4 (ix2 k c) = o.wo (ix2 k c))
  (h5 : ∀ c : Fin 1024, x5 (ix2 0 c) = o.g (ix1 c))
  (h6 : ∀ (k : Fin 1024) (c : Fin 5632), x6 (ix2 k c) = o.wu (ix2 k c))
  (h7 : ∀ (k : Fin 3) (c : Fin 5632), x7 (ix2 k c) = o.cw (ix2 k c))
  (h8 : ∀ (k : Fin 2816) (c : Fin 1024), x8 (ix2 k c) = o.wd (ix2 k c))
  (hC : ∀ (p : Fin 256) (c : Fin 5632), C (ix2 p c) = o.st (ix3 (sq p) (kp p) c))

include h0 h1 h2 h3 h4 in
theorem xr_eq (i : Fin 512) (c : Fin 1024) : XRv x0 x1 x2 x3 x4 (ix2 i c) = X o (sq i) (tk i) c := by
  rw [xr]
  unfold X
  simp only [h0, h1, h2, h3, h4]

include h0 h1 h2 h3 h4 h5 in
theorem xn_eq (i : Fin 512) (c : Fin 1024) : XNv x0 x1 x2 x3 x4 x5 (ix2 i c) = XN o (sq i) (tk i) c := by
  have e := xr_eq o x0 x1 x2 x3 x4 h0 h1 h2 h3 h4
  rw [xn]
  unfold XN inv
  simp only [e, h5]

include h0 h1 h2 h3 h4 h5 h6 in
theorem up_eq (i : Fin 512) (c : Fin 5632) : UPB (XNv x0 x1 x2 x3 x4 x5) x6 i c = UP o (sq i) (tk i) c := by
  have e := xn_eq o x0 x1 x2 x3 x4 x5 h0 h1 h2 h3 h4 h5
  unfold UPB UP
  simp only [e, h6]

include h0 h1 h2 h3 h4 h5 h6 hC in
theorem ext_eq (j : Fin 6) (i : Fin 512) (d p : ℕ) (hp : p < 768) (hpd : p = 128 * d + i.val) (hj : j.val = d + i.val / 128) (c : Fin 5632) :
    EXT (XNv x0 x1 x2 x3 x4 x5) x6 C p hp c = upx o (sq i) j c := by
  unfold EXT upx
  by_cases h : p < 256
  · rw [dif_pos h, hC, dif_pos (by omega)]
    refine congrArg o.st (congrArg₂ (fun u v => ix3 u v c) (Fin.ext ?_) (Fin.ext ?_))
    · show p % 128 = i.val % 128
      omega
    · show p / 128 = j.val
      omega
  · rw [dif_neg h, dif_neg (by omega), up_eq o x0 x1 x2 x3 x4 x5 x6 h0 h1 h2 h3 h4 h5 h6]
    refine congrArg₂ (fun u v => UP o u v c) (Fin.ext ?_) (Fin.ext ?_)
    · show (p - 256) % 128 = i.val % 128
      omega
    · show (p - 256) / 128 = j.val - 2
      omega

include h0 h1 h2 h3 h4 h5 h6 h7 hC in
theorem cv_eq (i : Fin 512) (c : Fin 5632) : Tile.CV (XNv x0 x1 x2 x3 x4 x5) x6 x7 C i c = CV o (sq i) (tk i) c := by
  unfold Tile.CV CV
  rw [h7, h7, h7, up_eq o x0 x1 x2 x3 x4 x5 x6 h0 h1 h2 h3 h4 h5 h6,
    ext_eq o x0 x1 x2 x3 x4 x5 x6 C h0 h1 h2 h3 h4 h5 h6 hC ⟨(tk i).val, by omega⟩ i 0 _ _ (by omega) (by show i.val / 128 = 0 + i.val / 128; omega),
    ext_eq o x0 x1 x2 x3 x4 x5 x6 C h0 h1 h2 h3 h4 h5 h6 hC ⟨1 + (tk i).val, by omega⟩ i 1 _ _ (by omega) (by show 1 + i.val / 128 = 1 + i.val / 128; omega)]

include h0 h1 h2 h3 h4 h5 h6 h7 h8 hC in
/-- A tile's rows of the result. -/
theorem y_eq (i : Fin 512) (c : Fin 1024) :
    YV x0 x1 x2 x3 x4 (HIDv (XNv x0 x1 x2 x3 x4 x5) x6 x7 C) x8 (ix2 i c) = Y o (sq i) (tk i) c := by
  have e := cv_eq o x0 x1 x2 x3 x4 x5 x6 x7 C h0 h1 h2 h3 h4 h5 h6 h7 hC
  rw [yv, xr_eq o x0 x1 x2 x3 x4 h0 h1 h2 h3 h4]
  unfold Y
  refine congrArg (_ + ·) (Finset.sum_congr rfl fun k _ => ?_)
  rw [h8]
  refine congrArg (· * _) ?_
  show HID _ _ _ _ i k = _
  unfold HID HD
  simp only [e]

include h0 h1 h2 h3 h4 h5 h6 in
/-- The rows kept for the next step. -/
theorem car_eq (p : Fin 256) (c : Fin 5632) : CARv (XNv x0 x1 x2 x3 x4 x5) x6 (ix2 p c) = UP o (sq p) (nw p) c := by
  refine (up_eq o x0 x1 x2 x3 x4 x5 x6 h0 h1 h2 h3 h4 h5 h6 ⟨256 + p.val, by omega⟩ c).trans ?_
  refine congrArg₂ (fun u v => UP o u v c) (Fin.ext ?_) (Fin.ext ?_)
  · show (256 + p.val) % 128 = p.val % 128
    omega
  · show (256 + p.val) / 128 = 2 + p.val / 128
    omega

end tile

end Cert.FfsIdeal.Rows

end
-- ==== Proof.SArrays.lean ====
module

public import proofs.«01_k».proof.Proof.SRows
public import Idealize.ShloMosaic.Lib.Pipeline.ValueKit
public import Idealize.ShloMosaic.Lib.Pointwise
public import Idealize.ShloMosaic.Lib.Claim

@[expose] public section

set_option maxRecDepth 16384

noncomputable section

namespace Cert.FfsIdeal.Arrays

open Cert.FfsIdeal Cert.FfsIdeal.Gen Idealize.ShloMosaic Idealize.ShloMosaic.TcCoe Idealize.SL.Sem

variable (m : (ℓ : Loc nD τ sig) → Buf (Elt Ideal) ℓ)

/-- The operands of a device. -/
def ops (c : Dev nD) : Rows.Ops where
  x := m ((c : Thread nD τ).loc main_arg0)
  oa := m ((c : Thread nD τ).loc main_arg1)
  ob := m ((c : Thread nD τ).loc main_arg2)
  oc := m ((c : Thread nD τ).loc main_arg3)
  wo := m ((c : Thread nD τ).loc main_arg4)
  g := m ((c : Thread nD τ).loc main_arg5)
  wu := m ((c : Thread nD τ).loc main_arg6)
  cw := m ((c : Thread nD τ).loc main_arg7)
  wd := m ((c : Thread nD τ).loc main_arg8)
  st := m ((c : Thread nD τ).loc main_arg9)

/-! ## The operands that the host lays out -/

theorem wo_apply (c : Dev nD) (k : Fin 1024) (x : Fin 1024) : (V m c main_v10 : Vec Ideal S1024x1024 .bf16) (ix2 k x) = (ops m c).wo (ix2 k x) := by
  unfold V
  simp only [hostOps0, List.flatten_cons, List.flatten_nil, List.cons_append, List.nil_append, List.append_nil]
  after_results
  pointwise
  rfl

theorem g_apply (c : Dev nD) (x : Fin 1024) : (V m c main_v11 : Vec Ideal S1x1024 .f32) (ix2 0 x) = (ops m c).g (ix1 x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem wu_apply (c : Dev nD) (k : Fin 1024) (x : Fin 5632) : (V m c main_v12 : Vec Ideal S1024x5632 .bf16) (ix2 k x) = (ops m c).wu (ix2 k x) := by
  unfold V
  simp only [hostOps0, List.flatten_cons, List.flatten_nil, List.cons_append, List.nil_append, List.append_nil]
  after_results
  pointwise
  rfl

theorem wd_apply (c : Dev nD) (k : Fin 2816) (x : Fin 1024) : (V m c main_v13 : Vec Ideal S2816x1024 .bf16) (ix2 k x) = (ops m c).wd (ix2 k x) := by
  unfold V
  simp only [hostOps0, List.flatten_cons, List.flatten_nil, List.cons_append, List.nil_append, List.append_nil]
  after_results
  pointwise
  rfl

theorem x_apply (c : Dev nD) (i : Fin 512) (x : Fin 1024) : (V m c main_v3 : Vec Ideal S512x1024 .f32) (ix2 i x) = (ops m c).x (ix3 (Rows.sq i) (Rows.tk i) x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem oa_apply (c : Dev nD) (i : Fin 512) (x : Fin 512) : (V m c main_v5 : Vec Ideal S512x512 .bf16) (ix2 i x) = (ops m c).oa (ix3 (Rows.sq i) (Rows.tk i) x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem ob_apply (c : Dev nD) (i : Fin 512) (x : Fin 256) : (V m c main_v7 : Vec Ideal S512x256 .bf16) (ix2 i x) = (ops m c).ob (ix3 (Rows.sq i) (Rows.tk i) x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem oc_apply (c : Dev nD) (i : Fin 512) (x : Fin 256) : (V m c main_v9 : Vec Ideal S512x256 .bf16) (ix2 i x) = (ops m c).oc (ix3 (Rows.sq i) (Rows.tk i) x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

theorem st_apply (c : Dev nD) (i : Fin 256) (x : Fin 5632) : (V m c main_v1 : Vec Ideal S256x5632 .f32) (ix2 i x) = (ops m c).st (ix3 (Rows.sq i) (Rows.kp i) x) := by
  unfold V
  simp only [hostOps0, List.flatten_cons, List.flatten_nil, List.cons_append, List.nil_append, List.append_nil]
  after_results
  simp only [StableHlo.TRef.ofBuf_toBuf, StableHlo.TRef.ofBuf, StableHlo.TRef.toBuf, cast_eq]
  pointwise
  rfl

/-! ## The blocks of a grid point -/

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

theorem b0 (c : Dev nD) (t : Fin cfg0.N) (i : Fin 512) (x : Fin 1024) : (iblk m c 0 t : Vec Ideal S512x1024 .f32) (ix2 i x)
    = (V m c main_v3 : Vec Ideal S512x1024 .f32) (ix2 i x) := by
  blk_ext [iblk, idx t]

theorem b1 (c : Dev nD) (t : Fin cfg0.N) (i : Fin 512) (x : Fin 512) : (iblk m c 1 t : Vec Ideal S512x512 .bf16) (ix2 i x)
    = (V m c main_v5 : Vec Ideal S512x512 .bf16) (ix2 i x) := by
  blk_ext [iblk, idx t]

theorem b2 (c : Dev nD) (t : Fin cfg0.N) (i : Fin 512) (x : Fin 256) : (iblk m c 2 t : Vec Ideal S512x256 .bf16) (ix2 i x)
    = (V m c main_v7 : Vec Ideal S512x256 .bf16) (ix2 i x) := by
  blk_ext [iblk, idx t]

theorem b3 (c : Dev nD) (t : Fin cfg0.N) (i : Fin 512) (x : Fin 256) : (iblk m c 3 t : Vec Ideal S512x256 .bf16) (ix2 i x)
    = (V m c main_v9 : Vec Ideal S512x256 .bf16) (ix2 i x) := by
  blk_ext [iblk, idx t]

theorem b4 (c : Dev nD) (t : Fin cfg0.N) (i : Fin 1024) (x : Fin 1024) : (iblk m c 4 t : Vec Ideal S1024x1024 .bf16) (ix2 i x)
    = (V m c main_v10 : Vec Ideal S1024x1024 .bf16) (ix2 i x) := by
  blk_ext [iblk, idx t]

theorem b5 (c : Dev nD) (t : Fin cfg0.N) (x : Fin 1024) : (iblk m c 5 t : Vec Ideal S1x1024 .f32) (ix2 0 x)
    = (V m c main_v11 : Vec Ideal S1x1024 .f32) (ix2 0 x) := by
  blk_ext [iblk, idx t]

theorem b6 (c : Dev nD) (t : Fin cfg0.N) (i : Fin 1024) (x : Fin 5632) : (iblk m c 6 t : Vec Ideal S1024x5632 .bf16) (ix2 i x)
    = (V m c main_v12 : Vec Ideal S1024x5632 .bf16) (ix2 i x) := by
  blk_ext [iblk, idx t]

theorem b7 (c : Dev nD) (t : Fin cfg0.N) (i : Fin 3) (x : Fin 5632) : (iblk m c 7 t : Vec Ideal S3x5632 .f32) (ix2 i x)
    = (ops m c).cw (ix2 i x) := by
  unfold ops
  blk_ext [iblk, idx t]

theorem b8 (c : Dev nD) (t : Fin cfg0.N) (i : Fin 2816) (x : Fin 1024) : (iblk m c 8 t : Vec Ideal S2816x1024 .bf16) (ix2 i x)
    = (V m c main_v13 : Vec Ideal S2816x1024 .bf16) (ix2 i x) := by
  blk_ext [iblk, idx t]

theorem b9 (c : Dev nD) (t : Fin cfg0.N) (i : Fin 256) (x : Fin 5632) : (iblk m c 9 t : Vec Ideal S256x5632 .f32) (ix2 i x)
    = (V m c main_v1 : Vec Ideal S256x5632 .f32) (ix2 i x) := by
  blk_ext [iblk, idx t]

/-! ## The results -/

/-- The rows of the result at the only grid point. -/
theorem rows (c : Dev nD) (t : Fin cfg0.N) (i : Fin 512) (x : Fin 1024) :
    ((outsAt0 m c t).1 : Vec Ideal S512x1024 .f32) (ix2 i x) = Rows.Y (ops m c) (Rows.sq i) (Rows.tk i) x := by
  have e := Rows.y_eq (ops m c) (iblk m c 0 t) (iblk m c 1 t) (iblk m c 2 t) (iblk m c 3 t) (iblk m c 4 t) (iblk m c 5 t) (iblk m c 6 t) (iblk m c 7 t) (iblk m c 8 t) (iblk m c 9 t)
    (fun i x => (b0 m c t i x).trans (x_apply m c i x)) (fun i x => (b1 m c t i x).trans (oa_apply m c i x)) (fun i x => (b2 m c t i x).trans (ob_apply m c i x)) (fun i x => (b3 m c t i x).trans (oc_apply m c i x)) (fun k x => (b4 m c t k x).trans (wo_apply m c k x)) (fun x => (b5 m c t x).trans (g_apply m c x))
    (fun k x => (b6 m c t k x).trans (wu_apply m c k x)) (b7 m c t) (fun k x => (b8 m c t k x).trans (wd_apply m c k x))
    (fun p x => (b9 m c t p x).trans (st_apply m c p x)) i x
  unfold outsAt0
  dsimp only
  rw [Pieces.rowsA]
  exact e

/-- The kept rows at the only grid point. -/
theorem kept (c : Dev nD) (t : Fin cfg0.N) (i : Fin 256) (x : Fin 5632) :
    ((outsAt0 m c t).2 : Vec Ideal S256x5632 .f32) (ix2 i x) = Rows.UP (ops m c) (Rows.sq i) (Rows.nw i) x := by
  have e := Rows.car_eq (ops m c) (iblk m c 0 t) (iblk m c 1 t) (iblk m c 2 t) (iblk m c 3 t) (iblk m c 4 t) (iblk m c 5 t) (iblk m c 6 t)
    (fun i x => (b0 m c t i x).trans (x_apply m c i x)) (fun i x => (b1 m c t i x).trans (oa_apply m c i x)) (fun i x => (b2 m c t i x).trans (ob_apply m c i x)) (fun i x => (b3 m c t i x).trans (oc_apply m c i x)) (fun k x => (b4 m c t k x).trans (wo_apply m c k x)) (fun x => (b5 m c t x).trans (g_apply m c x))
    (fun k x => (b6 m c t k x).trans (wu_apply m c k x)) i x
  unfold outsAt0
  dsimp only
  rw [Pieces.lastA]
  exact e

theorem final10 (c : Dev nD) : (dats m 0 c).arrAt 10 (cfgs 0).N = fun i : S512x1024.Idx => Rows.Y (ops m c) (Rows.sq (i 0)) (Rows.tk (i 0)) (i 1) := by
  refine (dats m 0 c).arrAt_eq_of_covers 10 _ (by decide +kernel) fun t hf y => ?_
  blk_simp [idx t]
  rw [after0_10]
  obtain ⟨i, x, rfl⟩ : ∃ (i : Fin 512) (x : Fin 1024), y = ix2 i x := ⟨y 0, y 1, eq_ix2 y⟩
  refine (rows m c t i x).trans ?_
  have e0 : ∀ j : Fin 512, j.val = i.val → Rows.Y (ops m c) (Rows.sq i) (Rows.tk i) x = Rows.Y (ops m c) (Rows.sq j) (Rows.tk j) x := fun j hj => by rw [Fin.ext hj]
  refine (e0 _ ?_).trans (congrArg (Rows.Y (ops m c) _ _) (Fin.ext ?_))
  · blk_simp [idx t]
  · blk_simp [idx t]

theorem final11 (c : Dev nD) : (dats m 0 c).arrAt 11 (cfgs 0).N = fun i : S256x5632.Idx => Rows.UP (ops m c) (Rows.sq (i 0)) (Rows.nw (i 0)) (i 1) := by
  refine (dats m 0 c).arrAt_eq_of_covers 11 _ (by decide +kernel) fun t hf y => ?_
  blk_simp [idx t]
  rw [after0_11]
  obtain ⟨i, x, rfl⟩ : ∃ (i : Fin 256) (x : Fin 5632), y = ix2 i x := ⟨y 0, y 1, eq_ix2 y⟩
  refine (kept m c t i x).trans ?_
  have e0 : ∀ j : Fin 256, j.val = i.val → Rows.UP (ops m c) (Rows.sq i) (Rows.nw i) x = Rows.UP (ops m c) (Rows.sq j) (Rows.nw j) x := fun j hj => by rw [Fin.ext hj]
  refine (e0 _ ?_).trans (congrArg (Rows.UP (ops m c) _ _) (Fin.ext ?_))
  · blk_simp [idx t]
  · blk_simp [idx t]

end Cert.FfsIdeal.Arrays

end
-- ==== Proof.SRefRead.lean ====
module

public import proofs.«01_k».proof.Proof.SRows
public import proofs.«01_k».proof.Proof.Gen.FfsReferenceIdeal.Read
public import Idealize.ShloMosaic.Lib.Pointwise

@[expose] public section

set_option maxRecDepth 16384
set_option maxHeartbeats 1000000

noncomputable section

namespace Cert.FfsReferenceIdeal.RefRead

open Cert.FfsReferenceIdeal Cert.FfsReferenceIdeal.Gen Cert.FfsReferenceIdeal.Read Idealize.ShloMosaic Idealize.ShloMosaic.TcCoe Idealize.SL.Sem
open Cert.FfsIdeal

variable (o : Rows.Ops)

/-- A sum over the joined axis, head group by head group. -/
theorem sum_split (f : Fin 1024 → EReal) : ∑ k : Fin 1024, f k
    = (∑ k : Fin 512, f ⟨k.val, by omega⟩) + (∑ k : Fin 256, f ⟨512 + k.val, by omega⟩) + ∑ k : Fin 256, f ⟨768 + k.val, by omega⟩ := by
  refine (Fin.sum_univ_add (a := 768) (b := 256) f).trans (congrArg (· + _) ?_)
  exact Fin.sum_univ_add (a := 512) (b := 256) fun k => f (Fin.castAdd 256 k)

theorem x_read (b : Fin 128) (s : Fin 4) (c : Fin 1024) : val_main_v3 (F := Ideal) o.x o.oa o.ob o.oc o.wo (ix3 b s c) = Rows.X o b s c := by
  pointwise [val_main_v3, val_main_v2, val_main_v1, val_main_v0]
  rw [sum_split]
  unfold Rows.X
  refine congrArg (_ + ·) (congrArg₂ (· + ·) (congrArg₂ (· + ·) ?_ ?_) ?_) <;> refine Finset.sum_congr rfl fun k _ => congrArg (· * _) ?_
  · exact dif_pos k.isLt
  · dsimp only
    refine (dif_neg (by omega)).trans ((dif_pos (by omega)).trans ?_)
    congr 3
    omega
  · dsimp only
    refine (dif_neg (by omega)).trans ((dif_neg (by omega)).trans ?_)
    congr 3
    omega

theorem xn_read (b : Fin 128) (s : Fin 4) (c : Fin 1024) : val_main_v16 (F := Ideal) o.x o.oa o.ob o.oc o.wo o.g (ix3 b s c) = Rows.XN o b s c := by
  have e := x_read o
  unfold val_main_v16 val_main_v13 val_main_v12 val_main_v11 val_main_v10 val_main_v8 val_main_v6 val_main_v5 val_main_v4
  revert e
  generalize val_main_v3 (F := Ideal) _ _ _ _ _ = X
  intro e
  pointwise [val_main_v15, val_main_v14, val_main_v9, val_main_v7, val_main_cst_0, val_main_cst_1, val_main_cst]
  unfold Rows.XN Rows.inv
  simp only [e]

theorem up_read (b : Fin 128) (s : Fin 4) (c : Fin 5632) : val_main_v17 (F := Ideal) o.x o.oa o.ob o.oc o.wo o.g o.wu (ix3 b s c) = Rows.UP o b s c := by
  have e := xn_read o
  unfold val_main_v17
  revert e
  generalize val_main_v16 (F := Ideal) _ _ _ _ _ _ = X
  intro e
  pointwise []
  unfold Rows.UP
  simp only [e]

/-- The kept rows and the new ones, joined. -/
theorem ext_read (b : Fin 128) (j : Fin 6) (c : Fin 5632) :
    val_main_v18 (F := Ideal) o.x o.oa o.ob o.oc o.wo o.g o.wu o.st (ix3 b j c) = Rows.upx o b j c := by
  have e := up_read o
  unfold val_main_v18
  revert e
  generalize val_main_v17 (F := Ideal) _ _ _ _ _ _ _ = X
  intro e
  pointwise []
  by_cases h : j.val < 2
  · rw [Rows.upx_old o b j h]
    exact dif_pos h
  · rw [Rows.upx_old_not o b j h]
    exact (dif_neg h).trans (e b _ c)

theorem upx_new (b : Fin 128) (s : Fin 4) (j : Fin 6) (h : j.val = 2 + s.val) (c : Fin 5632) : Rows.upx o b j c = Rows.UP o b s c := by
  unfold Rows.upx
  rw [dif_neg (by omega)]
  refine congrArg (fun u => Rows.UP o b u c) (Fin.ext ?_)
  show j.val - 2 = s.val
  omega

theorem cv_read (b : Fin 128) (s : Fin 4) (c : Fin 5632) : val_main_v40 (F := Ideal) o.x o.oa o.ob o.oc o.wo o.g o.wu o.cw o.st (ix3 b s c) = Rows.CV o b s c := by
  have e := ext_read o
  unfold val_main_v40 val_main_v39 val_main_v36 val_main_v33 val_main_v32 val_main_v29 val_main_v26 val_main_v24 val_main_v21
  revert e
  generalize val_main_v18 (F := Ideal) _ _ _ _ _ _ _ _ = X
  intro e
  pointwise [val_main_v38, val_main_v37, val_main_v35, val_main_v34, val_main_v31, val_main_v30, val_main_v28, val_main_v27, val_main_v25, val_main_cst_2, val_main_v23, val_main_v22, val_main_v20, val_main_v19]
  unfold Rows.CV
  rw [← upx_new o b s ⟨2 + s.val, by omega⟩ rfl]
  refine congrArg₂ (· + ·) (congrArg₂ (· + ·) (congrArg (_ * ·) ?_) (congrArg (_ * ·) ?_)) (congrArg (_ * ·) ?_)
  · exact e b _ c
  · exact e b _ c
  · exact e b _ c

theorem hd_read (b : Fin 128) (s : Fin 4) (c : Fin 2816) : val_main_v44 (F := Ideal) o.x o.oa o.ob o.oc o.wo o.g o.wu o.cw o.st (ix3 b s c) = Rows.HD o b s c := by
  have e := cv_read o
  unfold val_main_v44 val_main_v43 val_main_call0_v5 val_main_call0_v3 val_main_call0_v1 val_main_call0_v0 val_main_v42 val_main_v41
  revert e
  generalize val_main_v40 (F := Ideal) _ _ _ _ _ _ _ _ _ = X
  intro e
  pointwise [val_main_call0_v4, val_main_call0_v2, val_main_call0_cst, val_main_call0_cst_0]
  unfold Rows.HD
  simp only [e, sub_eq_add_neg, zero_add]

theorem y_read (b : Fin 128) (s : Fin 4) (c : Fin 1024) : val_main_v46 (F := Ideal) o.x o.oa o.ob o.oc o.wo o.g o.wu o.cw o.wd o.st (ix3 b s c) = Rows.Y o b s c := by
  have e := hd_read o
  have ex := x_read o
  unfold val_main_v46 val_main_v45
  revert e ex
  generalize val_main_v44 (F := Ideal) _ _ _ _ _ _ _ _ _ = H
  generalize val_main_v3 (F := Ideal) _ _ _ _ _ = X
  intro e ex
  pointwise []
  unfold Rows.Y
  simp only [e, ex]

theorem out_read (i : Fin 512) (c : Fin 1024) : val_main_v48 (F := Ideal) o.x o.oa o.ob o.oc o.wo o.g o.wu o.cw o.wd o.st (ix2 i c) = Rows.Y o (Rows.sq i) (Rows.tk i) c := by
  have e := y_read o
  unfold val_main_v48 val_main_v47
  revert e
  generalize val_main_v46 (F := Ideal) _ _ _ _ _ _ _ _ _ _ = X
  intro e
  pointwise []
  exact e _ _ _

theorem last_read (i : Fin 256) (c : Fin 5632) : val_main_v51 (F := Ideal) o.x o.oa o.ob o.oc o.wo o.g o.wu o.st (ix2 i c) = Rows.UP o (Rows.sq i) (Rows.nw i) c := by
  have e := ext_read o
  unfold val_main_v51 val_main_v50 val_main_v49
  revert e
  generalize val_main_v18 (F := Ideal) _ _ _ _ _ _ _ _ = X
  intro e
  pointwise []
  refine (e (Rows.sq i) ⟨4 + i.val / 128, by omega⟩ c).trans (upx_new o _ _ _ ?_ c)
  show 4 + i.val / 128 = 2 + (2 + i.val / 128)
  omega

end Cert.FfsReferenceIdeal.RefRead

end
-- ==== Proof.lean ====
module

public import proofs.«01_k».proof.Proof.Arrays
public import proofs.«01_k».proof.Proof.RefRead
public import proofs.«01_k».proof.Proof.Gen.KernelIdeal.Value
public import proofs.«01_k».proof.Proof.Gen.ReferenceIdeal.Run
public import proofs.«01_k».proof.Proof.Gen.ReferenceIdeal.Read
public import proofs.«01_k».proof.Proof.FArrays
public import proofs.«01_k».proof.Proof.FRefRead
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.SArrays
public import proofs.«01_k».proof.Proof.SRefRead
public import proofs.«01_k».proof.Proof.Gen.FfsIdeal.Value
public import proofs.«01_k».proof.Proof.Gen.FfsReferenceIdeal.Run
public import proofs.«01_k».proof.Proof.Gen.FfsReferenceIdeal.Read
public import proofs.«01_k».proof.Defs
public import proofs.«01_k».proof.Proof.Gen.Ffs.Frame
public import proofs.«01_k».proof.Proof.Gen.FfsIdeal.Frame
public import proofs.«01_k».proof.Proof.Gen.Ffn.Frame
public import proofs.«01_k».proof.Proof.Gen.FfnIdeal.Frame
public import proofs.«01_k».proof.Proof.Gen.Kernel.Frame
public import proofs.«01_k».proof.Proof.Gen.KernelIdeal.Frame
public import Idealize.ShloMosaic.Lib.Claim

@[expose] public section

set_option maxRecDepth 16384

noncomputable section

namespace Cert.Proof

open Idealize.ShloMosaic Idealize.SL.Sem

theorem frame_kernel : @Cert.quiescent_Kernel Cert.Kernel.Gen.facts := fun m g _ => Cert.Kernel.Gen.frame m g

theorem frame_ideal : @Cert.quiescent_KernelIdeal Cert.KernelIdeal.Gen.facts := fun m g _ => Cert.KernelIdeal.Gen.frame m g

theorem frame_reference : @Cert.quiescent_ReferenceIdeal Cert.ReferenceIdeal.Gen.facts := fun m g _ =>
  (θ_run Cert.ReferenceIdeal.defs _ _).mono (fun r h => ⟨fun c => (h c).2.2, sem_eq_zero_of_no_sems (by decide) r.2⟩)
    (Cert.ReferenceIdeal.Value.run m g)

/-- The factor of the scores is the f32 nearest `1 / log 2`. -/
theorem preserves : Cert.preserves_Kernel_KernelIdeal :=
  IdealRules.named_const.statement Cert.KernelIdeal.κ "log2e" .f32 0x3FB8AA3B#32 (((Real.log 2)⁻¹ : ℝ) : EReal) rfl

/-- The attention kernel and the reference, on equal arguments, end with equal results: both are the weighted sums of the
    values and the statistics of the rows that `Cert.Band` names. -/
theorem algebraic : @Cert.algebraic_KernelIdeal_ReferenceIdeal Cert.KernelIdeal.Gen.facts Cert.ReferenceIdeal.Gen.facts := by
  pair_intro
  · exact Cert.KernelIdeal.Value.run_blocks m g
  · run_from Cert.ReferenceIdeal.Value.run m' g'
    · rw [Cert.ReferenceIdeal.Read.val_main_v94_eq, (hagree c).1, (hagree c).2.1, (hagree c).2.2]
      refine Eq.trans ?_ (Cert.KernelIdeal.Arrays.final6 m c).symm
      funext i
      obtain ⟨i, x, rfl⟩ : ∃ (j : Fin 1024) (x : Fin 8192), i = ix2 j x := ⟨i 0, i 1, eq_ix2 i⟩
      exact Cert.ReferenceIdeal.Arrays.r_n _ _ _ i x
    · rw [Cert.ReferenceIdeal.Read.val_main_v95_eq, (hagree c).1, (hagree c).2.1]
      refine Eq.trans ?_ (Cert.KernelIdeal.Arrays.final7 m c).symm
      funext i
      obtain ⟨i, x, rfl⟩ : ∃ (j : Fin 1024) (x : Fin 2048), i = ix2 j x := ⟨i 0, i 1, eq_ix2 i⟩
      exact Cert.ReferenceIdeal.Arrays.r_l _ _ i x

theorem frame_ffn : @Cert.quiescent_Ffn Cert.Ffn.Gen.facts := fun m g _ => Cert.Ffn.Gen.frame m g

theorem frame_ffn_ideal : @Cert.quiescent_FfnIdeal Cert.FfnIdeal.Gen.facts := fun m g _ => Cert.FfnIdeal.Gen.frame m g

theorem frame_ffn_reference : @Cert.quiescent_FfnReferenceIdeal Cert.FfnReferenceIdeal.Gen.facts := fun m g _ =>
  (θ_run Cert.FfnReferenceIdeal.defs _ _).mono (fun r h => ⟨fun c => (h c).2.2, sem_eq_zero_of_no_sems (by decide) r.2⟩)
    (Cert.FfnReferenceIdeal.Value.run m g)

/-- The idealized call names no constant. -/
theorem preserves_ffn : Cert.preserves_Ffn_FfnIdeal := trivial

/-- The call after the attention and its reference, on equal arguments, end with equal results: both are the rows that
    `Cert.FfnIdeal.Rows` names. -/
theorem algebraic_ffn : @Cert.algebraic_FfnIdeal_FfnReferenceIdeal Cert.FfnIdeal.Gen.facts Cert.FfnReferenceIdeal.Gen.facts := by
  pair_intro
  · exact Cert.FfnIdeal.Value.run_blocks m g
  · run_from Cert.FfnReferenceIdeal.Value.run m' g'
    · obtain ⟨h0, h1, h2, h3, h4, h5, h6, h7, h8⟩ := hagree c
      rw [Cert.FfnReferenceIdeal.Read.val_main_v46_eq, h0, h1, h2, h3, h4, h5, h6, h7, h8]
      refine Eq.trans ?_ (Cert.FfnIdeal.Arrays.final10 m c).symm
      funext i
      obtain ⟨i, x, rfl⟩ : ∃ (j : Fin 16384) (x : Fin 1024), i = ix2 j x := ⟨i 0, i 1, eq_ix2 i⟩
      exact Cert.FfnReferenceIdeal.RefRead.y_read (Cert.FfnIdeal.Arrays.ops m c) i x
    · obtain ⟨h0, h1, h2, h3, h4, h5, h6, h7, h8⟩ := hagree c
      rw [Cert.FfnReferenceIdeal.Read.val_main_v47_eq, h1, h2, h3]
      refine Eq.trans ?_ (Cert.FfnIdeal.Arrays.final11 m c).symm
      funext i
      obtain ⟨i, x, rfl⟩ : ∃ (j : Fin 8) (x : Fin 5632), i = ix2 j x := ⟨i 0, i 1, eq_ix2 i⟩
      exact Cert.FfnReferenceIdeal.RefRead.last_read (Cert.FfnIdeal.Arrays.ops m c) i x

theorem frame_sample : @Cert.quiescent_Ffs Cert.Ffs.Gen.facts := fun m g _ => Cert.Ffs.Gen.frame m g

theorem frame_sample_ideal : @Cert.quiescent_FfsIdeal Cert.FfsIdeal.Gen.facts := fun m g _ => Cert.FfsIdeal.Gen.frame m g

theorem frame_sample_reference : @Cert.quiescent_FfsReferenceIdeal Cert.FfsReferenceIdeal.Gen.facts := fun m g _ =>
  (θ_run Cert.FfsReferenceIdeal.defs _ _).mono (fun r h => ⟨fun c => (h c).2.2, sem_eq_zero_of_no_sems (by decide) r.2⟩)
    (Cert.FfsReferenceIdeal.Value.run m g)

/-- The idealized call of the sample names no constant. -/
theorem preserves_sample : Cert.preserves_Ffs_FfsIdeal := trivial

/-- The sample's call after the attention and its reference, on equal arguments, end with equal results: both are the tokens
    that `Cert.FfsIdeal.Rows` names, one token of every sequence after the other. -/
theorem algebraic_sample : @Cert.algebraic_FfsIdeal_FfsReferenceIdeal Cert.FfsIdeal.Gen.facts Cert.FfsReferenceIdeal.Gen.facts := by
  pair_intro
  · exact Cert.FfsIdeal.Value.run_blocks m g
  · run_from Cert.FfsReferenceIdeal.Value.run m' g'
    · obtain ⟨h0, h1, h2, h3, h4, h5, h6, h7, h8, h9⟩ := hagree c
      rw [Cert.FfsReferenceIdeal.Read.val_main_v48_eq, h0, h1, h2, h3, h4, h5, h6, h7, h8, h9]
      refine Eq.trans ?_ (Cert.FfsIdeal.Arrays.final10 m c).symm
      funext i
      obtain ⟨i, x, rfl⟩ : ∃ (j : Fin 512) (x : Fin 1024), i = ix2 j x := ⟨i 0, i 1, eq_ix2 i⟩
      exact Cert.FfsReferenceIdeal.RefRead.out_read (Cert.FfsIdeal.Arrays.ops m c) i x
    · obtain ⟨h0, h1, h2, h3, h4, h5, h6, h7, h8, h9⟩ := hagree c
      rw [Cert.FfsReferenceIdeal.Read.val_main_v51_eq, h4, h5, h6, h9]
      refine Eq.trans ?_ (Cert.FfsIdeal.Arrays.final11 m c).symm
      funext i
      obtain ⟨i, x, rfl⟩ : ∃ (j : Fin 256) (x : Fin 5632), i = ix2 j x := ⟨i 0, i 1, eq_ix2 i⟩
      exact Cert.FfsReferenceIdeal.RefRead.last_read (Cert.FfsIdeal.Arrays.ops m c) i x

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Ffs.Gen.facts, Cert.FfsIdeal.Gen.facts, Cert.FfsReferenceIdeal.Gen.facts,
    frame_kernel, frame_ideal, frame_reference, frame_ffn, frame_ffn_ideal, frame_ffn_reference,
    frame_sample, frame_sample_ideal, frame_sample_reference,
    preserves, algebraic, preserves_ffn, algebraic_ffn, preserves_sample, algebraic_sample⟩

end Cert.Proof

end
